-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S2x256x2048 : Shape := ⟨3, ![2, 256, 2048]⟩
abbrev S2 : Shape := ⟨1, ![2]⟩
abbrev S_ : Shape := ⟨0, ![]⟩
abbrev S256x256 : Shape := ⟨2, ![256, 256]⟩
abbrev S256x2048 : Shape := ⟨2, ![256, 2048]⟩
abbrev S1x256x2048 : Shape := ⟨3, ![1, 256, 2048]⟩

abbrev nBuf : Space → Nat
  | .hbm => 5
  | .vmem => 7
  | .smem => 2
  | _ => 0

abbrev bufTy : (tb : Table) → Fin (tcTables nBuf tb) → BufTy
  | .hbm, ⟨0, _⟩ => ⟨S4096x256, .fp8e5m2⟩
  | .hbm, ⟨1, _⟩ => ⟨S256x8192, .fp8e5m2⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e5m2⟩
  | .local _ .vmem, ⟨1, _⟩ => ⟨S256x8192, .fp8e5m2⟩
  | .local _ .vmem, ⟨2, _⟩ => ⟨S256x8192, .f32⟩
  | .local _ .vmem, ⟨3, _⟩ => ⟨S2x256x2048, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | .local _ .smem, ⟨0, _⟩ => ⟨S1, .f32⟩
  | .local _ .smem, ⟨1, _⟩ => ⟨S1, .f32⟩
  | _, _ => ⟨S4096x256, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 6 → Bool
  | ⟨0, _⟩ => true
  | ⟨1, _⟩ => true
  | ⟨2, _⟩ => true
  | ⟨3, _⟩ => true
  | ⟨4, _⟩ => false
  | ⟨5, _⟩ => true
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 6 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_off1 (d0 : Dev nD) (c_m1_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.subi v2 c2_i32
  let v9 : BitVec 32 := Scalar.subi v8 c_m1_i32
  let c32_i32 : BitVec 32 := 32#32
  let v10 : BitVec 32 := Scalar.addi v9 c32_i32
  let c16_i32_5 : BitVec 32 := 16#32
  let v11 : BitVec 32 := Scalar.remsi v10 c16_i32_5
  let c256_i32 : BitVec 32 := 256#32
  let v12 : BitVec 32 := Scalar.muli v11 c256_i32
  let v13 : Index := Scalar.indexCast v12
  let c0 : Index := 0#32
  ![v13.toNat, 0]
def k0_off1_at (r : Fin 16) : BitVec 32 :=
  if r.val < 8 then
    if r.val < 4 then
      if r.val < 2 then
        if r.val < 1 then
          4294967295#32
        else
          0#32
      else
        if r.val < 3 then
          1#32
        else
          2#32
    else
      if r.val < 6 then
        if r.val < 5 then
          3#32
        else
          4#32
      else
        if r.val < 7 then
          5#32
        else
          6#32
  else
    if r.val < 12 then
      if r.val < 10 then
        if r.val < 9 then
          7#32
        else
          8#32
      else
        if r.val < 11 then
          9#32
        else
          10#32
    else
      if r.val < 14 then
        if r.val < 13 then
          11#32
        else
          12#32
      else
        if r.val < 15 then
          13#32
        else
          14#32
def k0_off2 (d0 : Dev nD) (c_m1_i32_22 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_21 : BitVec 32 := 2#32
  let v38 : BitVec 32 := Scalar.addi v2 c2_i32_21
  let v39 : BitVec 32 := Scalar.addi v38 c_m1_i32_22
  let c16_i32_23 : BitVec 32 := 16#32
  let v40 : BitVec 32 := Scalar.remsi v39 c16_i32_23
  let c256_i32_24 : BitVec 32 := 256#32
  let v41 : BitVec 32 := Scalar.muli v40 c256_i32_24
  let v42 : Index := Scalar.indexCast v41
  let c0_25 : Index := 0#32
  ![v42.toNat, 0]
def k0_off2_at (r : Fin 16) : BitVec 32 :=
  if r.val < 8 then
    if r.val < 4 then
      if r.val < 2 then
        if r.val < 1 then
          4294967295#32
        else
          0#32
      else
        if r.val < 3 then
          1#32
        else
          2#32
    else
      if r.val < 6 then
        if r.val < 5 then
          3#32
        else
          4#32
      else
        if r.val < 7 then
          5#32
        else
          6#32
  else
    if r.val < 12 then
      if r.val < 10 then
        if r.val < 9 then
          7#32
        else
          8#32
      else
        if r.val < 11 then
          9#32
        else
          10#32
    else
      if r.val < 14 then
        if r.val < 13 then
          11#32
        else
          12#32
      else
        if r.val < 15 then
          13#32
        else
          14#32
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_42 : BitVec 32 := 1#32
  let v67 : BitVec 32 := Scalar.muli v5 c1_i32_42
  let v68 : BitVec 32 := Scalar.addi c0_i32 v67
  v68.toNat
def k0_dev2 (d0 : Dev nD) : Nat :=
  let c0_i32_45 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_44 : BitVec 32 := 1#32
  let v69 : BitVec 32 := Scalar.muli v7 c1_i32_44
  let v70 : BitVec 32 := Scalar.addi c0_i32_45 v69
  v70.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_51 : BitVec 32 := 1#32
  let v71 : BitVec 32 := Scalar.muli v7 c1_i32_51
  let v72 : BitVec 32 := Scalar.addi c0_i32_52 v71
  v72.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_61 : BitVec 32 := 1#32
  let v81 : BitVec 32 := Scalar.muli v7 c1_i32_61
  let v82 : BitVec 32 := Scalar.addi c0_i32_62 v81
  v82.toNat
def k0_dev5 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_71 : BitVec 32 := 1#32
  let v91 : BitVec 32 := Scalar.muli v5 c1_i32_71
  let v92 : BitVec 32 := Scalar.addi c0_i32_72 v91
  v92.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_81 : BitVec 32 := 1#32
  let v101 : BitVec 32 := Scalar.muli v5 c1_i32_81
  let v102 : BitVec 32 := Scalar.addi c0_i32_82 v101
  v102.toNat
def k0_dev7 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_109 : BitVec 32 := 1#32
  let v128 : BitVec 32 := Scalar.muli v5 c1_i32_109
  let v129 : BitVec 32 := Scalar.addi c0_i32_110 v128
  v129.toNat
def k0_dev8 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_132 : BitVec 32 := 1#32
  let v149 : BitVec 32 := Scalar.muli v7 c1_i32_132
  let v150 : BitVec 32 := Scalar.addi c0_i32_133 v149
  v150.toNat
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_158 : BitVec 32 := 1#32
  let v173 : BitVec 32 := Scalar.muli v7 c1_i32_158
  let v174 : BitVec 32 := Scalar.addi c0_i32_159 v173
  v174.toNat
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_180 : BitVec 32 := 1#32
  let v193 : BitVec 32 := Scalar.muli v5 c1_i32_180
  let v194 : BitVec 32 := Scalar.addi c0_i32_181 v193
  v194.toNat
def k0_dev11 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_206 : BitVec 32 := 1#32
  let v217 : BitVec 32 := Scalar.muli v5 c1_i32_206
  let v218 : BitVec 32 := Scalar.addi c0_i32_207 v217
  v218.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_229 : BitVec 32 := 1#32
  let v238 : BitVec 32 := Scalar.muli v7 c1_i32_229
  let v239 : BitVec 32 := Scalar.addi c0_i32_230 v238
  v239.toNat
def k0_dev13 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_255 : BitVec 32 := 1#32
  let v262 : BitVec 32 := Scalar.muli v7 c1_i32_255
  let v263 : BitVec 32 := Scalar.addi c0_i32_256 v262
  v263.toNat
def k0_dev14 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_277 : BitVec 32 := 1#32
  let v282 : BitVec 32 := Scalar.muli v5 c1_i32_277
  let v283 : BitVec 32 := Scalar.addi c0_i32_278 v282
  v283.toNat
def k0_dev15 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_303 : BitVec 32 := 1#32
  let v306 : BitVec 32 := Scalar.muli v5 c1_i32_303
  let v307 : BitVec 32 := Scalar.addi c0_i32_304 v306
  v307.toNat
def k0_dev16 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_326 : BitVec 32 := 1#32
  let v327 : BitVec 32 := Scalar.muli v7 c1_i32_326
  let v328 : BitVec 32 := Scalar.addi c0_i32_327 v327
  v328.toNat
def k0_dev17 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_352 : BitVec 32 := 1#32
  let v351 : BitVec 32 := Scalar.muli v7 c1_i32_352
  let v352 : BitVec 32 := Scalar.addi c0_i32_353 v351
  v352.toNat
def k0_dev18 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_374 : BitVec 32 := 1#32
  let v371 : BitVec 32 := Scalar.muli v5 c1_i32_374
  let v372 : BitVec 32 := Scalar.addi c0_i32_375 v371
  v372.toNat
def k0_dev19 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_400 : BitVec 32 := 1#32
  let v395 : BitVec 32 := Scalar.muli v5 c1_i32_400
  let v396 : BitVec 32 := Scalar.addi c0_i32_401 v395
  v396.toNat
def k0_dev20 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_423 : BitVec 32 := 1#32
  let v416 : BitVec 32 := Scalar.muli v7 c1_i32_423
  let v417 : BitVec 32 := Scalar.addi c0_i32_424 v416
  v417.toNat
def k0_dev21 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_449 : BitVec 32 := 1#32
  let v440 : BitVec 32 := Scalar.muli v7 c1_i32_449
  let v441 : BitVec 32 := Scalar.addi c0_i32_450 v440
  v441.toNat
def k0_dev22 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_471 : BitVec 32 := 1#32
  let v460 : BitVec 32 := Scalar.muli v5 c1_i32_471
  let v461 : BitVec 32 := Scalar.addi c0_i32_472 v460
  v461.toNat
def k0_dev23 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_497 : BitVec 32 := 1#32
  let v484 : BitVec 32 := Scalar.muli v5 c1_i32_497
  let v485 : BitVec 32 := Scalar.addi c0_i32_498 v484
  v485.toNat
def k0_dev24 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_520 : BitVec 32 := 1#32
  let v505 : BitVec 32 := Scalar.muli v7 c1_i32_520
  let v506 : BitVec 32 := Scalar.addi c0_i32_521 v505
  v506.toNat
def k0_dev25 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_546 : BitVec 32 := 1#32
  let v529 : BitVec 32 := Scalar.muli v7 c1_i32_546
  let v530 : BitVec 32 := Scalar.addi c0_i32_547 v529
  v530.toNat
def k0_dev26 (d0 : Dev nD) : Nat :=
  let c0_i32_569 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_568 : BitVec 32 := 1#32
  let v549 : BitVec 32 := Scalar.muli v5 c1_i32_568
  let v550 : BitVec 32 := Scalar.addi c0_i32_569 v549
  v550.toNat
def k0_dev27 (d0 : Dev nD) : Nat :=
  let c0_i32_595 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_594 : BitVec 32 := 1#32
  let v573 : BitVec 32 := Scalar.muli v5 c1_i32_594
  let v574 : BitVec 32 := Scalar.addi c0_i32_595 v573
  v574.toNat
def k0_dev28 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_617 : BitVec 32 := 1#32
  let v594 : BitVec 32 := Scalar.muli v7 c1_i32_617
  let v595 : BitVec 32 := Scalar.addi c0_i32_618 v594
  v595.toNat
def k0_dev29 (d0 : Dev nD) : Nat :=
  let c0_i32_644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_643 : BitVec 32 := 1#32
  let v618 : BitVec 32 := Scalar.muli v7 c1_i32_643
  let v619 : BitVec 32 := Scalar.addi c0_i32_644 v618
  v619.toNat
def k0_dev30 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_665 : BitVec 32 := 1#32
  let v638 : BitVec 32 := Scalar.muli v5 c1_i32_665
  let v639 : BitVec 32 := Scalar.addi c0_i32_666 v638
  v639.toNat
def k0_dev31 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_691 : BitVec 32 := 1#32
  let v662 : BitVec 32 := Scalar.muli v5 c1_i32_691
  let v663 : BitVec 32 := Scalar.addi c0_i32_692 v662
  v663.toNat
def k0_dev32 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_713 : BitVec 32 := 1#32
  let v683 : BitVec 32 := Scalar.muli v7 c1_i32_713
  let v684 : BitVec 32 := Scalar.addi c0_i32_714 v683
  v684.toNat
def k0_dev33 (d0 : Dev nD) : Nat :=
  let c0_i32_740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_739 : BitVec 32 := 1#32
  let v707 : BitVec 32 := Scalar.muli v7 c1_i32_739
  let v708 : BitVec 32 := Scalar.addi c0_i32_740 v707
  v708.toNat
def k0_dev34 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_761 : BitVec 32 := 1#32
  let v727 : BitVec 32 := Scalar.muli v5 c1_i32_761
  let v728 : BitVec 32 := Scalar.addi c0_i32_762 v727
  v728.toNat
def k0_dev35 (d0 : Dev nD) : Nat :=
  let c0_i32_788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_787 : BitVec 32 := 1#32
  let v751 : BitVec 32 := Scalar.muli v5 c1_i32_787
  let v752 : BitVec 32 := Scalar.addi c0_i32_788 v751
  v752.toNat
def k0_dev36 (d0 : Dev nD) : Nat :=
  let c0_i32_811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_810 : BitVec 32 := 1#32
  let v772 : BitVec 32 := Scalar.muli v7 c1_i32_810
  let v773 : BitVec 32 := Scalar.addi c0_i32_811 v772
  v773.toNat
def k0_dev37 (d0 : Dev nD) : Nat :=
  let c0_i32_837 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_836 : BitVec 32 := 1#32
  let v796 : BitVec 32 := Scalar.muli v7 c1_i32_836
  let v797 : BitVec 32 := Scalar.addi c0_i32_837 v796
  v797.toNat
def k0_dev38 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_858 : BitVec 32 := 1#32
  let v816 : BitVec 32 := Scalar.muli v5 c1_i32_858
  let v817 : BitVec 32 := Scalar.addi c0_i32_859 v816
  v817.toNat
def k0_dev39 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_884 : BitVec 32 := 1#32
  let v840 : BitVec 32 := Scalar.muli v5 c1_i32_884
  let v841 : BitVec 32 := Scalar.addi c0_i32_885 v840
  v841.toNat
def k0_dev40 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_906 : BitVec 32 := 1#32
  let v861 : BitVec 32 := Scalar.muli v7 c1_i32_906
  let v862 : BitVec 32 := Scalar.addi c0_i32_907 v861
  v862.toNat
def k0_dev41 (d0 : Dev nD) : Nat :=
  let c0_i32_933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_932 : BitVec 32 := 1#32
  let v885 : BitVec 32 := Scalar.muli v7 c1_i32_932
  let v886 : BitVec 32 := Scalar.addi c0_i32_933 v885
  v886.toNat
def k0_dev42 (d0 : Dev nD) : Nat :=
  let c0_i32_955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_954 : BitVec 32 := 1#32
  let v905 : BitVec 32 := Scalar.muli v5 c1_i32_954
  let v906 : BitVec 32 := Scalar.addi c0_i32_955 v905
  v906.toNat
def k0_dev43 (d0 : Dev nD) : Nat :=
  let c0_i32_981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_980 : BitVec 32 := 1#32
  let v929 : BitVec 32 := Scalar.muli v5 c1_i32_980
  let v930 : BitVec 32 := Scalar.addi c0_i32_981 v929
  v930.toNat
def k0_dev44 (d0 : Dev nD) : Nat :=
  let c0_i32_1004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1003 : BitVec 32 := 1#32
  let v950 : BitVec 32 := Scalar.muli v7 c1_i32_1003
  let v951 : BitVec 32 := Scalar.addi c0_i32_1004 v950
  v951.toNat
def k0_dev45 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1029 : BitVec 32 := 1#32
  let v974 : BitVec 32 := Scalar.muli v7 c1_i32_1029
  let v975 : BitVec 32 := Scalar.addi c0_i32_1030 v974
  v975.toNat
def k0_dev46 (d0 : Dev nD) : Nat :=
  let c0_i32_1052 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1051 : BitVec 32 := 1#32
  let v994 : BitVec 32 := Scalar.muli v5 c1_i32_1051
  let v995 : BitVec 32 := Scalar.addi c0_i32_1052 v994
  v995.toNat
def k0_dev47 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1077 : BitVec 32 := 1#32
  let v1018 : BitVec 32 := Scalar.muli v5 c1_i32_1077
  let v1019 : BitVec 32 := Scalar.addi c0_i32_1078 v1018
  v1019.toNat
def k0_dev48 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1099 : BitVec 32 := 1#32
  let v1039 : BitVec 32 := Scalar.muli v7 c1_i32_1099
  let v1040 : BitVec 32 := Scalar.addi c0_i32_1100 v1039
  v1040.toNat
def k0_dev49 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1125 : BitVec 32 := 1#32
  let v1063 : BitVec 32 := Scalar.muli v7 c1_i32_1125
  let v1064 : BitVec 32 := Scalar.addi c0_i32_1126 v1063
  v1064.toNat
def k0_dev50 (d0 : Dev nD) : Nat :=
  let c0_i32_1148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1147 : BitVec 32 := 1#32
  let v1083 : BitVec 32 := Scalar.muli v5 c1_i32_1147
  let v1084 : BitVec 32 := Scalar.addi c0_i32_1148 v1083
  v1084.toNat
def k0_dev51 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1173 : BitVec 32 := 1#32
  let v1107 : BitVec 32 := Scalar.muli v5 c1_i32_1173
  let v1108 : BitVec 32 := Scalar.addi c0_i32_1174 v1107
  v1108.toNat
def k0_dev52 (d0 : Dev nD) : Nat :=
  let c0_i32_1197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1196 : BitVec 32 := 1#32
  let v1128 : BitVec 32 := Scalar.muli v7 c1_i32_1196
  let v1129 : BitVec 32 := Scalar.addi c0_i32_1197 v1128
  v1129.toNat
def k0_dev53 (d0 : Dev nD) : Nat :=
  let c0_i32_1223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1222 : BitVec 32 := 1#32
  let v1152 : BitVec 32 := Scalar.muli v7 c1_i32_1222
  let v1153 : BitVec 32 := Scalar.addi c0_i32_1223 v1152
  v1153.toNat
def k0_dev54 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1244 : BitVec 32 := 1#32
  let v1172 : BitVec 32 := Scalar.muli v5 c1_i32_1244
  let v1173 : BitVec 32 := Scalar.addi c0_i32_1245 v1172
  v1173.toNat
def k0_dev55 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1270 : BitVec 32 := 1#32
  let v1196 : BitVec 32 := Scalar.muli v5 c1_i32_1270
  let v1197 : BitVec 32 := Scalar.addi c0_i32_1271 v1196
  v1197.toNat
def k0_dev56 (d0 : Dev nD) : Nat :=
  let c0_i32_1293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1292 : BitVec 32 := 1#32
  let v1217 : BitVec 32 := Scalar.muli v7 c1_i32_1292
  let v1218 : BitVec 32 := Scalar.addi c0_i32_1293 v1217
  v1218.toNat
def k0_dev57 (d0 : Dev nD) : Nat :=
  let c0_i32_1319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1318 : BitVec 32 := 1#32
  let v1241 : BitVec 32 := Scalar.muli v7 c1_i32_1318
  let v1242 : BitVec 32 := Scalar.addi c0_i32_1319 v1241
  v1242.toNat
def k0_dev58 (d0 : Dev nD) : Nat :=
  let c0_i32_1341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1340 : BitVec 32 := 1#32
  let v1261 : BitVec 32 := Scalar.muli v5 c1_i32_1340
  let v1262 : BitVec 32 := Scalar.addi c0_i32_1341 v1261
  v1262.toNat
def k0_dev59 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1366 : BitVec 32 := 1#32
  let v1285 : BitVec 32 := Scalar.muli v5 c1_i32_1366
  let v1286 : BitVec 32 := Scalar.addi c0_i32_1367 v1285
  v1286.toNat
def k0_dev60 (d0 : Dev nD) : Nat :=
  let c0_i32_1390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1389 : BitVec 32 := 1#32
  let v1306 : BitVec 32 := Scalar.muli v7 c1_i32_1389
  let v1307 : BitVec 32 := Scalar.addi c0_i32_1390 v1306
  v1307.toNat
def k0_dev61 (d0 : Dev nD) : Nat :=
  let c0_i32_1416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1415 : BitVec 32 := 1#32
  let v1330 : BitVec 32 := Scalar.muli v7 c1_i32_1415
  let v1331 : BitVec 32 := Scalar.addi c0_i32_1416 v1330
  v1331.toNat
def k0_dev62 (d0 : Dev nD) : Nat :=
  let c0_i32_1438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1437 : BitVec 32 := 1#32
  let v1350 : BitVec 32 := Scalar.muli v5 c1_i32_1437
  let v1351 : BitVec 32 := Scalar.addi c0_i32_1438 v1350
  v1351.toNat
def k0_dev63 (d0 : Dev nD) : Nat :=
  let c0_i32_1464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1463 : BitVec 32 := 1#32
  let v1374 : BitVec 32 := Scalar.muli v5 c1_i32_1463
  let v1375 : BitVec 32 := Scalar.addi c0_i32_1464 v1374
  v1375.toNat
def k0_dev64 (d0 : Dev nD) : Nat :=
  let c0_i32_1486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1485 : BitVec 32 := 1#32
  let v1395 : BitVec 32 := Scalar.muli v7 c1_i32_1485
  let v1396 : BitVec 32 := Scalar.addi c0_i32_1486 v1395
  v1396.toNat
def k0_dev65 (d0 : Dev nD) : Nat :=
  let c0_i32_1512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1511 : BitVec 32 := 1#32
  let v1419 : BitVec 32 := Scalar.muli v7 c1_i32_1511
  let v1420 : BitVec 32 := Scalar.addi c0_i32_1512 v1419
  v1420.toNat
def k0_dev66 (d0 : Dev nD) : Nat :=
  let c0_i32_1534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1533 : BitVec 32 := 1#32
  let v1439 : BitVec 32 := Scalar.muli v5 c1_i32_1533
  let v1440 : BitVec 32 := Scalar.addi c0_i32_1534 v1439
  v1440.toNat
def k0_dev67 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1559 : BitVec 32 := 1#32
  let v1463 : BitVec 32 := Scalar.muli v5 c1_i32_1559
  let v1464 : BitVec 32 := Scalar.addi c0_i32_1560 v1463
  v1464.toNat
def k0_dev68 (d0 : Dev nD) : Nat :=
  let c0_i32_1583 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1582 : BitVec 32 := 1#32
  let v1484 : BitVec 32 := Scalar.muli v7 c1_i32_1582
  let v1485 : BitVec 32 := Scalar.addi c0_i32_1583 v1484
  v1485.toNat
def k0_dev69 (d0 : Dev nD) : Nat :=
  let c0_i32_1609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1608 : BitVec 32 := 1#32
  let v1508 : BitVec 32 := Scalar.muli v7 c1_i32_1608
  let v1509 : BitVec 32 := Scalar.addi c0_i32_1609 v1508
  v1509.toNat
def k0_dev70 (d0 : Dev nD) : Nat :=
  let c0_i32_1631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1630 : BitVec 32 := 1#32
  let v1528 : BitVec 32 := Scalar.muli v5 c1_i32_1630
  let v1529 : BitVec 32 := Scalar.addi c0_i32_1631 v1528
  v1529.toNat
def k0_dev71 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1656 : BitVec 32 := 1#32
  let v1552 : BitVec 32 := Scalar.muli v5 c1_i32_1656
  let v1553 : BitVec 32 := Scalar.addi c0_i32_1657 v1552
  v1553.toNat
def k0_dev72 (d0 : Dev nD) : Nat :=
  let c0_i32_1679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1678 : BitVec 32 := 1#32
  let v1573 : BitVec 32 := Scalar.muli v7 c1_i32_1678
  let v1574 : BitVec 32 := Scalar.addi c0_i32_1679 v1573
  v1574.toNat
def k0_dev73 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1704 : BitVec 32 := 1#32
  let v1597 : BitVec 32 := Scalar.muli v7 c1_i32_1704
  let v1598 : BitVec 32 := Scalar.addi c0_i32_1705 v1597
  v1598.toNat
def k0_dev74 (d0 : Dev nD) : Nat :=
  let c0_i32_1727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1726 : BitVec 32 := 1#32
  let v1617 : BitVec 32 := Scalar.muli v5 c1_i32_1726
  let v1618 : BitVec 32 := Scalar.addi c0_i32_1727 v1617
  v1618.toNat
def k0_dev75 (d0 : Dev nD) : Nat :=
  let c0_i32_1753 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1752 : BitVec 32 := 1#32
  let v1641 : BitVec 32 := Scalar.muli v5 c1_i32_1752
  let v1642 : BitVec 32 := Scalar.addi c0_i32_1753 v1641
  v1642.toNat
def k0_dev76 (d0 : Dev nD) : Nat :=
  let c0_i32_1776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1775 : BitVec 32 := 1#32
  let v1662 : BitVec 32 := Scalar.muli v7 c1_i32_1775
  let v1663 : BitVec 32 := Scalar.addi c0_i32_1776 v1662
  v1663.toNat
def k0_dev77 (d0 : Dev nD) : Nat :=
  let c0_i32_1802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1801 : BitVec 32 := 1#32
  let v1686 : BitVec 32 := Scalar.muli v7 c1_i32_1801
  let v1687 : BitVec 32 := Scalar.addi c0_i32_1802 v1686
  v1687.toNat
def k0_dev78 (d0 : Dev nD) : Nat :=
  let c0_i32_1824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1823 : BitVec 32 := 1#32
  let v1706 : BitVec 32 := Scalar.muli v5 c1_i32_1823
  let v1707 : BitVec 32 := Scalar.addi c0_i32_1824 v1706
  v1707.toNat
def k0_dev79 (d0 : Dev nD) : Nat :=
  let c0_i32_1850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1849 : BitVec 32 := 1#32
  let v1730 : BitVec 32 := Scalar.muli v5 c1_i32_1849
  let v1731 : BitVec 32 := Scalar.addi c0_i32_1850 v1730
  v1731.toNat
def k0_dev80 (d0 : Dev nD) : Nat :=
  let c0_i32_1872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1871 : BitVec 32 := 1#32
  let v1751 : BitVec 32 := Scalar.muli v7 c1_i32_1871
  let v1752 : BitVec 32 := Scalar.addi c0_i32_1872 v1751
  v1752.toNat
def k0_dev81 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1897 : BitVec 32 := 1#32
  let v1775 : BitVec 32 := Scalar.muli v7 c1_i32_1897
  let v1776 : BitVec 32 := Scalar.addi c0_i32_1898 v1775
  v1776.toNat
def k0_dev82 (d0 : Dev nD) : Nat :=
  let c0_i32_1920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1919 : BitVec 32 := 1#32
  let v1795 : BitVec 32 := Scalar.muli v5 c1_i32_1919
  let v1796 : BitVec 32 := Scalar.addi c0_i32_1920 v1795
  v1796.toNat
def k0_dev83 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1945 : BitVec 32 := 1#32
  let v1819 : BitVec 32 := Scalar.muli v5 c1_i32_1945
  let v1820 : BitVec 32 := Scalar.addi c0_i32_1946 v1819
  v1820.toNat
def k0_dev84 (d0 : Dev nD) : Nat :=
  let c0_i32_1969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1968 : BitVec 32 := 1#32
  let v1840 : BitVec 32 := Scalar.muli v7 c1_i32_1968
  let v1841 : BitVec 32 := Scalar.addi c0_i32_1969 v1840
  v1841.toNat
def k0_dev85 (d0 : Dev nD) : Nat :=
  let c0_i32_1995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1994 : BitVec 32 := 1#32
  let v1864 : BitVec 32 := Scalar.muli v7 c1_i32_1994
  let v1865 : BitVec 32 := Scalar.addi c0_i32_1995 v1864
  v1865.toNat
def k0_dev86 (d0 : Dev nD) : Nat :=
  let c0_i32_2017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2016 : BitVec 32 := 1#32
  let v1884 : BitVec 32 := Scalar.muli v5 c1_i32_2016
  let v1885 : BitVec 32 := Scalar.addi c0_i32_2017 v1884
  v1885.toNat
def k0_dev87 (d0 : Dev nD) : Nat :=
  let c0_i32_2043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2042 : BitVec 32 := 1#32
  let v1908 : BitVec 32 := Scalar.muli v5 c1_i32_2042
  let v1909 : BitVec 32 := Scalar.addi c0_i32_2043 v1908
  v1909.toNat
def k0_dev88 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2064 : BitVec 32 := 1#32
  let v1929 : BitVec 32 := Scalar.muli v7 c1_i32_2064
  let v1930 : BitVec 32 := Scalar.addi c0_i32_2065 v1929
  v1930.toNat
def k0_dev89 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2090 : BitVec 32 := 1#32
  let v1953 : BitVec 32 := Scalar.muli v7 c1_i32_2090
  let v1954 : BitVec 32 := Scalar.addi c0_i32_2091 v1953
  v1954.toNat
def k0_dev90 (d0 : Dev nD) : Nat :=
  let c0_i32_2113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2112 : BitVec 32 := 1#32
  let v1973 : BitVec 32 := Scalar.muli v5 c1_i32_2112
  let v1974 : BitVec 32 := Scalar.addi c0_i32_2113 v1973
  v1974.toNat
def k0_dev91 (d0 : Dev nD) : Nat :=
  let c0_i32_2139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2138 : BitVec 32 := 1#32
  let v1997 : BitVec 32 := Scalar.muli v5 c1_i32_2138
  let v1998 : BitVec 32 := Scalar.addi c0_i32_2139 v1997
  v1998.toNat
def k0_dev92 (d0 : Dev nD) : Nat :=
  let c0_i32_2162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2161 : BitVec 32 := 1#32
  let v2018 : BitVec 32 := Scalar.muli v7 c1_i32_2161
  let v2019 : BitVec 32 := Scalar.addi c0_i32_2162 v2018
  v2019.toNat
def k0_dev93 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2187 : BitVec 32 := 1#32
  let v2042 : BitVec 32 := Scalar.muli v7 c1_i32_2187
  let v2043 : BitVec 32 := Scalar.addi c0_i32_2188 v2042
  v2043.toNat
def k0_dev94 (d0 : Dev nD) : Nat :=
  let c0_i32_2210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2209 : BitVec 32 := 1#32
  let v2062 : BitVec 32 := Scalar.muli v5 c1_i32_2209
  let v2063 : BitVec 32 := Scalar.addi c0_i32_2210 v2062
  v2063.toNat
def k0_dev95 (d0 : Dev nD) : Nat :=
  let c0_i32_2236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2235 : BitVec 32 := 1#32
  let v2086 : BitVec 32 := Scalar.muli v5 c1_i32_2235
  let v2087 : BitVec 32 := Scalar.addi c0_i32_2236 v2086
  v2087.toNat
def k0_dev96 (d0 : Dev nD) : Nat :=
  let c0_i32_2258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2257 : BitVec 32 := 1#32
  let v2107 : BitVec 32 := Scalar.muli v7 c1_i32_2257
  let v2108 : BitVec 32 := Scalar.addi c0_i32_2258 v2107
  v2108.toNat
def k0_dev97 (d0 : Dev nD) : Nat :=
  let c0_i32_2284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2283 : BitVec 32 := 1#32
  let v2131 : BitVec 32 := Scalar.muli v7 c1_i32_2283
  let v2132 : BitVec 32 := Scalar.addi c0_i32_2284 v2131
  v2132.toNat
def k0_dev98 (d0 : Dev nD) : Nat :=
  let c0_i32_2306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2305 : BitVec 32 := 1#32
  let v2151 : BitVec 32 := Scalar.muli v5 c1_i32_2305
  let v2152 : BitVec 32 := Scalar.addi c0_i32_2306 v2151
  v2152.toNat
def k0_dev99 (d0 : Dev nD) : Nat :=
  let c0_i32_2332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2331 : BitVec 32 := 1#32
  let v2175 : BitVec 32 := Scalar.muli v5 c1_i32_2331
  let v2176 : BitVec 32 := Scalar.addi c0_i32_2332 v2175
  v2176.toNat
def k0_dev100 (d0 : Dev nD) : Nat :=
  let c0_i32_2355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2354 : BitVec 32 := 1#32
  let v2196 : BitVec 32 := Scalar.muli v7 c1_i32_2354
  let v2197 : BitVec 32 := Scalar.addi c0_i32_2355 v2196
  v2197.toNat
def k0_dev101 (d0 : Dev nD) : Nat :=
  let c0_i32_2381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2380 : BitVec 32 := 1#32
  let v2220 : BitVec 32 := Scalar.muli v7 c1_i32_2380
  let v2221 : BitVec 32 := Scalar.addi c0_i32_2381 v2220
  v2221.toNat
def k0_dev102 (d0 : Dev nD) : Nat :=
  let c0_i32_2403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2402 : BitVec 32 := 1#32
  let v2240 : BitVec 32 := Scalar.muli v5 c1_i32_2402
  let v2241 : BitVec 32 := Scalar.addi c0_i32_2403 v2240
  v2241.toNat
def k0_dev103 (d0 : Dev nD) : Nat :=
  let c0_i32_2429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2428 : BitVec 32 := 1#32
  let v2264 : BitVec 32 := Scalar.muli v5 c1_i32_2428
  let v2265 : BitVec 32 := Scalar.addi c0_i32_2429 v2264
  v2265.toNat
def k0_dev104 (d0 : Dev nD) : Nat :=
  let c0_i32_2451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2450 : BitVec 32 := 1#32
  let v2285 : BitVec 32 := Scalar.muli v7 c1_i32_2450
  let v2286 : BitVec 32 := Scalar.addi c0_i32_2451 v2285
  v2286.toNat
def k0_dev105 (d0 : Dev nD) : Nat :=
  let c0_i32_2477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2476 : BitVec 32 := 1#32
  let v2309 : BitVec 32 := Scalar.muli v7 c1_i32_2476
  let v2310 : BitVec 32 := Scalar.addi c0_i32_2477 v2309
  v2310.toNat
def k0_dev106 (d0 : Dev nD) : Nat :=
  let c0_i32_2499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2498 : BitVec 32 := 1#32
  let v2329 : BitVec 32 := Scalar.muli v5 c1_i32_2498
  let v2330 : BitVec 32 := Scalar.addi c0_i32_2499 v2329
  v2330.toNat
def k0_dev107 (d0 : Dev nD) : Nat :=
  let c0_i32_2525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2524 : BitVec 32 := 1#32
  let v2353 : BitVec 32 := Scalar.muli v5 c1_i32_2524
  let v2354 : BitVec 32 := Scalar.addi c0_i32_2525 v2353
  v2354.toNat
def k0_dev108 (d0 : Dev nD) : Nat :=
  let c0_i32_2548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2547 : BitVec 32 := 1#32
  let v2374 : BitVec 32 := Scalar.muli v7 c1_i32_2547
  let v2375 : BitVec 32 := Scalar.addi c0_i32_2548 v2374
  v2375.toNat
def k0_dev109 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2573 : BitVec 32 := 1#32
  let v2398 : BitVec 32 := Scalar.muli v7 c1_i32_2573
  let v2399 : BitVec 32 := Scalar.addi c0_i32_2574 v2398
  v2399.toNat
def k0_dev110 (d0 : Dev nD) : Nat :=
  let c0_i32_2596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2595 : BitVec 32 := 1#32
  let v2418 : BitVec 32 := Scalar.muli v5 c1_i32_2595
  let v2419 : BitVec 32 := Scalar.addi c0_i32_2596 v2418
  v2419.toNat
def k0_dev111 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2621 : BitVec 32 := 1#32
  let v2442 : BitVec 32 := Scalar.muli v5 c1_i32_2621
  let v2443 : BitVec 32 := Scalar.addi c0_i32_2622 v2442
  v2443.toNat
def k0_dev112 (d0 : Dev nD) : Nat :=
  let c0_i32_2644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2643 : BitVec 32 := 1#32
  let v2463 : BitVec 32 := Scalar.muli v7 c1_i32_2643
  let v2464 : BitVec 32 := Scalar.addi c0_i32_2644 v2463
  v2464.toNat
def k0_dev113 (d0 : Dev nD) : Nat :=
  let c0_i32_2670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2669 : BitVec 32 := 1#32
  let v2487 : BitVec 32 := Scalar.muli v7 c1_i32_2669
  let v2488 : BitVec 32 := Scalar.addi c0_i32_2670 v2487
  v2488.toNat
def k0_dev114 (d0 : Dev nD) : Nat :=
  let c0_i32_2692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2691 : BitVec 32 := 1#32
  let v2507 : BitVec 32 := Scalar.muli v5 c1_i32_2691
  let v2508 : BitVec 32 := Scalar.addi c0_i32_2692 v2507
  v2508.toNat
def k0_dev115 (d0 : Dev nD) : Nat :=
  let c0_i32_2718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2717 : BitVec 32 := 1#32
  let v2531 : BitVec 32 := Scalar.muli v5 c1_i32_2717
  let v2532 : BitVec 32 := Scalar.addi c0_i32_2718 v2531
  v2532.toNat
def k0_dev116 (d0 : Dev nD) : Nat :=
  let c0_i32_2741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2740 : BitVec 32 := 1#32
  let v2552 : BitVec 32 := Scalar.muli v7 c1_i32_2740
  let v2553 : BitVec 32 := Scalar.addi c0_i32_2741 v2552
  v2553.toNat
def k0_dev117 (d0 : Dev nD) : Nat :=
  let c0_i32_2767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2766 : BitVec 32 := 1#32
  let v2576 : BitVec 32 := Scalar.muli v7 c1_i32_2766
  let v2577 : BitVec 32 := Scalar.addi c0_i32_2767 v2576
  v2577.toNat
def k0_dev118 (d0 : Dev nD) : Nat :=
  let c0_i32_2789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2788 : BitVec 32 := 1#32
  let v2596 : BitVec 32 := Scalar.muli v5 c1_i32_2788
  let v2597 : BitVec 32 := Scalar.addi c0_i32_2789 v2596
  v2597.toNat
def k0_dev119 (d0 : Dev nD) : Nat :=
  let c0_i32_2925_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2924_r0 : BitVec 32 := 1#32
  let v2741_r0 : BitVec 32 := Scalar.muli v5 c1_i32_2924_r0
  let v2742_r0 : BitVec 32 := Scalar.addi c0_i32_2925_r0 v2741_r0
  v2742_r0.toNat
def k0_dev120 (d0 : Dev nD) : Nat :=
  let c0_i32_2928_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2927_r0 : BitVec 32 := 1#32
  let v2743_r0 : BitVec 32 := Scalar.muli v7 c1_i32_2927_r0
  let v2744_r0 : BitVec 32 := Scalar.addi c0_i32_2928_r0 v2743_r0
  v2744_r0.toNat
abbrev stage0_0 : Fin 1 → Memref sig .tc .vmem S4096x256 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KIProg.lean ====
/- The kernel body as a program that is uniform in the step and in the stream. The printed body is
   a straight line of sixty exchange steps (fifteen of each of the four streams); here one step is
   written once, at a symbolic step number and stream, and the body is the list of its steps. -/
module

public import proofs.«01_k».proof.Proof.Gen.KernelIdeal.Skeleton
public import proofs.«01_k».proof.Proof.Gen.KernelIdeal.Launch
public import Idealize.ShloMosaic.Lib.Pipeline.Regions

@[expose] public section

noncomputable section

namespace Cert.KernelIdeal.K1

open Idealize.ShloMosaic Idealize.SL.Sem
open Cert.KernelIdeal.Gen

variable {F : FTy → Type} [FloatOps F]

/-! ## The operands of a stream -/

/-- The communication buffer of stream `k`, whole. -/
def cm : Fin 4 → Memref sig .tc .vmem S2x256x2048 .bf16
  | 0 => Memref.whole cc0_scratch0 | 1 => Memref.whole cc0_scratch1
  | 2 => Memref.whole cc0_scratch2 | 3 => Memref.whole cc0_scratch3

/-- It is a whole buffer. -/
theorem cm_whole : ∀ k, (cm k).IsWhole
  | 0 => Memref.isWhole_whole _ | 1 => Memref.isWhole_whole _
  | 2 => Memref.isWhole_whole _ | 3 => Memref.isWhole_whole _

/-- The send semaphores of stream `k`. -/
def sendA : Fin 4 → DmaSems sig S2
  | 0 => cc0_scratch4 | 1 => cc0_scratch5 | 2 => cc0_scratch6 | 3 => cc0_scratch7

/-- The receive semaphores of stream `k`. -/
def recvA : Fin 4 → DmaSems sig S2
  | 0 => cc0_scratch8 | 1 => cc0_scratch9 | 2 => cc0_scratch10 | 3 => cc0_scratch11

/-- The credit semaphore of stream `k`. -/
def creditS : Fin 4 → Sem sig
  | 0 => cc0_scratch12.sem | 1 => cc0_scratch13.sem | 2 => cc0_scratch14.sem | 3 => cc0_scratch15.sem

/-- The device stream `k` of device `d` sends to. -/
def dnDev : Fin 4 → Dev nD → Dev nD
  | 0, d => ⟨k0_dev2 d, k0_dev2_lt d⟩ | 1, d => ⟨k0_dev2 d, k0_dev2_lt d⟩
  | 2, d => ⟨k0_dev1 d, k0_dev1_lt d⟩ | 3, d => ⟨k0_dev1 d, k0_dev1_lt d⟩

/-- The device stream `k` of device `d` receives from. -/
def upDev : Fin 4 → Dev nD → Dev nD
  | 0, d => ⟨k0_dev1 d, k0_dev1_lt d⟩ | 1, d => ⟨k0_dev1 d, k0_dev1_lt d⟩
  | 2, d => ⟨k0_dev2 d, k0_dev2_lt d⟩ | 3, d => ⟨k0_dev2 d, k0_dev2_lt d⟩

/-- Slot `p` lies in the buffer. -/
theorem slot_inb (p : Fin 2) : ∀ a, (![p.val, 0, 0] : Fin 3 → ℕ) a + S1x256x2048.size a ≤ S2x256x2048.size a := by
  revert p; decide

/-- Slot `p` of a communication buffer. -/
abbrev slotR (p : Fin 2) : Rect S2x256x2048 := Rect.unit (s := S2x256x2048) ![p.val, 0, 0] S1x256x2048.size (slot_inb p)

/-- A slot is packed rows. -/
theorem slot_packed : ∀ p : Fin 2, (slotR p).PackedRows (EltTy.packing .bf16)
  | 0 => packedbf16_S2x256x2048_S1x256x2048_0_0_0 | 1 => packedbf16_S2x256x2048_S1x256x2048_1_0_0

/-- A slot is whole words. -/
theorem slot_words : ∀ p : Fin 2, (slotR p).WholeWords (EltTy.packing .bf16)
  | 0 => wordsbf16_S2x256x2048_S1x256x2048_0_0_0 | 1 => wordsbf16_S2x256x2048_S1x256x2048_1_0_0

/-- Slot `p` of stream `k`'s buffer, as the copies address it. -/
abbrev slotM (k : Fin 4) (p : Fin 2) : Memref sig .tc .vmem S256x2048 .bf16 :=
  ((cm k).slice (slotR p) (fun _ => rfl)).squeeze S256x2048 squeezes_S1x256x2048_S256x2048

/-- A copy moves whole words of a slot. -/
theorem slotM_words (k : Fin 4) (p : Fin 2) : (slotM k p).view.WordExact :=
  ((cm_whole k).wordExact_slice rfl _ (slot_words p)).reshape _ _

/-- A semaphore of a pair. -/
theorem sem_inb (p : Fin 2) : ∀ a, (![p.val] : Fin 1 → ℕ) a + S1.size a ≤ S2.size a := by
  revert p; decide

/-- Semaphore `p` of a pair. -/
abbrev semAt (A : DmaSems sig S2) (p : Fin 2) : DmaSem sig :=
  ((A.slice (Rect.unit (s := S2) ![p.val] S1.size (sem_inb p))).squeeze S_ squeezes_S1_S_).sem

/-- The offset of the rows of `x` that the `r`-th product of stream `k` reads. -/
def xoff : Fin 4 → Dev nD → Fin 16 → Fin 2 → ℕ
  | 0, d, r => k0_off1 d (k0_off1_at r) | 1, d, r => k0_off1 d (k0_off1_at r)
  | 2, d, r => k0_off2 d (k0_off2_at r) | 3, d, r => k0_off2 d (k0_off2_at r)

/-- These rows lie in `x`. -/
theorem xoff_inb : ∀ k d r a, (xoff k d r) a + S256x256.size a ≤ S4096x256.size a
  | 0, d, r => k0_off1_inb d r | 1, d, r => k0_off1_inb d r
  | 2, d, r => k0_off2_inb d r | 3, d, r => k0_off2_inb d r

/-- The rows of `x` that the `r`-th product of stream `k` reads. -/
abbrev xR (k : Fin 4) (d : Dev nD) (r : Fin 16) : Rect S4096x256 :=
  Rect.unit (s := S4096x256) (xoff k d r) S256x256.size (xoff_inb k d r)

/-- The first column of stream `k`. -/
def col : Fin 4 → ℕ | 0 => 0 | 1 => 2048 | 2 => 4096 | 3 => 6144

/-- The columns of stream `k` lie in the width. -/
theorem col_inb (k : Fin 4) : ∀ a, (![0, col k] : Fin 2 → ℕ) a + S256x2048.size a ≤ S256x8192.size a := by
  revert k; decide

/-- The columns of stream `k`. -/
abbrev colR (k : Fin 4) : Rect S256x8192 := Rect.unit (s := S256x8192) ![0, col k] S256x2048.size (col_inb k)

/-- The product of a block of `x` and of a block of `w`. -/
def contrib (x : Vec F S256x256 .fp8e5m2) (w : Vec F S256x2048 .fp8e5m2) : FVec F S256x2048 .f32 :=
  matmul dot_S256x256_S256x2048_S256x2048_1_0_0_1_n_n none (shapeCast S256x256 x shapeCasts_S256x256_S256x256)
    (shapeCast S256x2048 w shapeCasts_S256x2048_S256x2048) (constant S256x2048 .f32 0x00000000#32)

/-- What the buffer holds before the first copy. -/
def payFirst (x : Vec F S256x256 .fp8e5m2) (w : Vec F S256x2048 .fp8e5m2) : FVec F S1x256x2048 .bf16 :=
  shapeCast S1x256x2048 (truncf .bf16 (contrib x w) bitsLt_bf16_f32) shapeCasts_S256x2048_S1x256x2048

/-- What has arrived, with the device's own product added. -/
def merged (v : Vec F S1x256x2048 .bf16) (x : Vec F S256x256 .fp8e5m2) (w : Vec F S256x2048 .fp8e5m2) : FVec F S256x2048 .f32 :=
  addf (extf .f32 (shapeCast S256x2048 v shapeCasts_S1x256x2048_S256x2048) bitsLt_bf16_f32) (contrib x w)

/-- What is passed on. -/
def payNext (v : Vec F S1x256x2048 .bf16) (x : Vec F S256x256 .fp8e5m2) (w : Vec F S256x2048 .fp8e5m2) : FVec F S1x256x2048 .bf16 :=
  shapeCast S1x256x2048 (truncf .bf16 (merged v x w) bitsLt_bf16_f32) shapeCasts_S256x2048_S1x256x2048

/-- What is stored at the end. -/
def payLast (sc : F .f32) (v : Vec F S1x256x2048 .bf16) (x : Vec F S256x256 .fp8e5m2) (w : Vec F S256x2048 .fp8e5m2) : FVec F S256x2048 .f32 :=
  mulf (mulf (merged v x w) (broadcast S256x2048 sc)) (logistic (mulf (merged v x w) (broadcast S256x2048 sc)))

/-! ## The program -/

/-- The programs of the kernel's core. -/
abbrev KProg (F : FTy → Type) [FloatOps F] := Prog (TpuEff nD τ sig (Elt F) Λ₀ .tc) PUnit

/-- Before the first copy of stream `k`: the device's own product, into slot 1. -/
def initThen (d : Dev nD) (k : Fin 4) (rest : KProg F) : KProg F :=
  .op (.load (Memref.whole cc0_stg0_0) (xR k d 0).toLoadRect (View.loadsAt_vmem h_S256x256)) fun (x : Vec F S256x256 .fp8e5m2) =>
  .op (.load (Memref.whole cc0_stg1_0) (colR k).toLoadRect (View.loadsAt_vmem h_S256x2048)) fun (w : Vec F S256x2048 .fp8e5m2) =>
  .op (.load (cm k) (slotR 1).toLoadRect (View.loadsAt_vmem h_S1x256x2048)) fun _ =>
  .op (.store (cm k) (slotR 1) (payFirst x w) Finset.univ (View.stores_vmem h_S1x256x2048 ((cm_whole k).storeExact_slice rfl _ (slot_packed 1)) (fun _ => rfl)) (.inl rfl)) fun _ =>
  rest

/-- A copy of stream `k` from slot `p` to the other slot `q` of the next device. -/
def copyThen (d : Dev nD) (k : Fin 4) (p q : Fin 2) (rest : KProg F) : KProg F :=
  .op (.enqueueDma (slotM k p) (.remote (Dev.tc (dnDev k d)) (slotM k q) (.dma (semAt (sendA k) p))) (.dma (semAt (recvA k) q))
    (slotM_words k p) (slotM_words k q) ⟨⟨rfl, Or.inl rfl⟩, trivial⟩) fun _ =>
  rest

/-- The wait for a copy of stream `k` to have been read out of slot `q`, then for the one arriving in `p`. -/
def waitsThen (k : Fin 4) (p q : Fin 2) (rest : KProg F) : KProg F :=
  .op (.waitDma2 (semAt (sendA k) q) (slotM k p) (slotM k q) (slotM_words k p) (slotM_words k q)) fun _ =>
  .op (.waitDma2 (semAt (recvA k) p) (slotM k q) (slotM k p) (slotM_words k q) (slotM_words k p)) fun _ =>
  rest

/-- The merge of an inner step of stream `k`: the arrived block and the device's own product, passed on. -/
def mergeThen (d : Dev nD) (k : Fin 4) (r : Fin 16) (p q : Fin 2) (rest : KProg F) : KProg F :=
  .op (.semSignal (Dev.tc (upDev k d)) (creditS k) (BitVec.toInt 1#32)) fun _ =>
  .op (.load (cm k) (slotR p).toLoadRect (View.loadsAt_vmem h_S1x256x2048)) fun (v : Vec F S1x256x2048 .bf16) =>
  .op (.load (Memref.whole cc0_stg0_0) (xR k d r).toLoadRect (View.loadsAt_vmem h_S256x256)) fun (x : Vec F S256x256 .fp8e5m2) =>
  .op (.load (Memref.whole cc0_stg1_0) (colR k).toLoadRect (View.loadsAt_vmem h_S256x2048)) fun (w : Vec F S256x2048 .fp8e5m2) =>
  .op (.load (cm k) (slotR p).toLoadRect (View.loadsAt_vmem h_S1x256x2048)) fun _ =>
  .op (.store (cm k) (slotR p) (payNext v x w) Finset.univ (View.stores_vmem h_S1x256x2048 ((cm_whole k).storeExact_slice rfl _ (slot_packed p)) (fun _ => rfl)) (.inl rfl)) fun _ =>
  .op (.semWait (creditS k) (BitVec.toInt 1#32)) fun _ =>
  copyThen d k p q rest

/-- The merge of the last step of stream `k`: scaled, activated and stored to the result. -/
def lastThen (d : Dev nD) (k : Fin 4) (sc : F .f32) (rest : KProg F) : KProg F :=
  .op (.load (cm k) (slotR 0).toLoadRect (View.loadsAt_vmem h_S1x256x2048)) fun (v : Vec F S1x256x2048 .bf16) =>
  .op (.load (Memref.whole cc0_stg0_0) (xR k d 15).toLoadRect (View.loadsAt_vmem h_S256x256)) fun (x : Vec F S256x256 .fp8e5m2) =>
  .op (.load (Memref.whole cc0_stg1_0) (colR k).toLoadRect (View.loadsAt_vmem h_S256x2048)) fun (w : Vec F S256x2048 .fp8e5m2) =>
  .op (.load (Memref.whole cc0_stg4_0) (colR k).toLoadRect (View.loadsAt_vmem h_S256x2048)) fun (_ : Vec F S256x2048 .f32) =>
  .op (.store (Memref.whole cc0_stg4_0) (colR k) (payLast sc v x w) Finset.univ (View.stores_vmem_bits_univ h_S256x2048 rfl) (.inl rfl)) fun _ =>
  rest

/-- The slot the block of step `s` arrives in. -/
def slotOf (s : ℕ) : Fin 2 := ⟨s % 2, Nat.mod_lt _ (by decide)⟩

/-- The number of the product of step `s`. -/
def prodOf (s : ℕ) : Fin 16 := ⟨(s + 1) % 16, Nat.mod_lt _ (by decide)⟩

/-- Inner step `s` of stream `k`. -/
def stepThen (d : Dev nD) (k : Fin 4) (s : ℕ) (rest : KProg F) : KProg F :=
  waitsThen k (slotOf s) (slotOf (s + 1)) (mergeThen d k (prodOf s) (slotOf s) (slotOf (s + 1)) rest)

/-- The streams in the order a step serves them. -/
abbrev order : List (Fin 4) := [0, 2, 1, 3]

/-- The inner steps in program order. -/
abbrev steps : List (ℕ × Fin 4) := (List.range 14).flatMap fun s => order.map fun k => (s, k)

/-- The body's end: the handshake on the second barrier. -/
def endProg (d : Dev nD) : KProg F :=
  .op (.semSignal (Dev.tc (⟨k0_dev1 d, k0_dev1_lt d⟩ : Dev nD)) cc0_scoped0.sem (BitVec.toInt 1#32)) fun _ =>
  .op (.semSignal (Dev.tc (⟨k0_dev2 d, k0_dev2_lt d⟩ : Dev nD)) cc0_scoped0.sem (BitVec.toInt 1#32)) fun _ =>
  .op (.semWait cc0_scoped0.sem (BitVec.toInt 2#32)) fun _ =>
  .ret ⟨⟩

/-- The body after the scale is known. -/
def tailProg (d : Dev nD) (sc : F .f32) : KProg F :=
  steps.foldr (fun e rest => stepThen d e.2 e.1 rest)
    (order.foldr (fun k rest => waitsThen k 0 1 (lastThen d k sc rest)) (endProg d))

/-- The body of the kernel on device `d`. -/
def bodyProg (d : Dev nD) : KProg F :=
  [0, 1, 2, 3].foldr (fun k rest => initThen d k rest) <|
  .op (.semSignal (Dev.tc (⟨k0_dev1 d, k0_dev1_lt d⟩ : Dev nD)) ((SemArray.scalar (sig.barrier 0 rfl) : Sems sig S_)).sem (BitVec.toInt 1#32)) fun _ =>
  .op (.semSignal (Dev.tc (⟨k0_dev2 d, k0_dev2_lt d⟩ : Dev nD)) ((SemArray.scalar (sig.barrier 0 rfl) : Sems sig S_)).sem (BitVec.toInt 1#32)) fun _ =>
  .op (.semWait ((SemArray.scalar (sig.barrier 0 rfl) : Sems sig S_)).sem (BitVec.toInt 2#32)) fun _ =>
  [0, 1, 2, 3].foldr (fun k rest => copyThen d k 1 0 rest) <|
  (smemLoad (Memref.whole cc0_stg2_0) (Rect.unit (s := S1) ![0] S1.size inb_S1_S1_0) numel1_S1 rfl).bind fun (a : Elt F .f32) =>
  (smemLoad (Memref.whole cc0_stg3_0) (Rect.unit (s := S1) ![0] S1.size inb_S1_S1_0) numel1_S1 rfl).bind fun (b : Elt F .f32) =>
  tailProg d (Scalar.mulf a b)

/-- The printed body is the uniform one. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8
      cc0_scratch9 cc0_scratch10 cc0_scratch11 cc0_scratch12 cc0_scratch13 cc0_scratch14 cc0_scratch15 cc0_scoped0
      = .op .deviceId fun d => bodyProg d := by
  chain_rfl

end Cert.KernelIdeal.K1

end
-- ==== Proof.KIProto.lean ====
/- The protocol of the sixteen devices: the semaphore cells, what each round of each cell hands its
   owner, what each device owes, the levels that order the waits, and the contents that travel. -/
module

public import proofs.«01_k».proof.Proof.KIProg
public import Idealize.ShloMosaic.Lib.Pipeline.Launch
public import Idealize.ShloMosaic.Lib.Pipeline.Kit
public import Idealize.ShloMosaic.Lib.Tactic

@[expose] public section

noncomputable section

namespace Cert.KernelIdeal.K1

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds algebra of the exchange. -/
abbrev UB : Type := URounds (GSem nD τ sig) Bool
/-- The pipeline's own copy beside it. -/
abbrev UU : Type := UR sig nD τ × UB

local notation "𝕄" => MT nD τ sig ℕ (Elt F) ℕ UU ℕ

/-- The pipeline's component. -/
abbrev EP : Emb (UR sig nD τ) (MT nD τ sig ℕ (Elt F) ℕ UU ℕ) := embL
/-- The exchange's component. -/
abbrev ER : Emb UB (MT nD τ sig ℕ (Elt F) ℕ UU ℕ) := embR

variable (m : (ℓ : Loc nD τ sig) → Buf (Elt F) ℓ) (ρ : Dev nD → PrngReg)

/-- The state at launch: any contents, every counter zero. -/
def s₀ : MemSt nD τ sig (Elt F) := ⟨m, fun _ => 0, ρ⟩

/-! ## The ring -/

/-- The left neighbour. -/
def lft (d : Dev nD) : Dev nD := ⟨k0_dev1 d, k0_dev1_lt d⟩
/-- The right neighbour. -/
def rgt (d : Dev nD) : Dev nD := ⟨k0_dev2 d, k0_dev2_lt d⟩

/-- The left neighbour of `d` is `d + 15` around the ring of sixteen, -/
theorem lft_eq (d : Dev nD) : lft d = ⟨(d.val + 15) % 16, Nat.mod_lt _ (by decide)⟩ := by revert d; decide
/-- the right one `d + 1`. -/
theorem rgt_eq (d : Dev nD) : rgt d = ⟨(d.val + 1) % 16, Nat.mod_lt _ (by decide)⟩ := by revert d; decide
/-- The left neighbour of the right neighbour is the device itself, -/
theorem lft_rgt (d : Dev nD) : lft (rgt d) = d := by revert d; decide
/-- and so is the right neighbour of the left one. -/
theorem rgt_lft (d : Dev nD) : rgt (lft d) = d := by revert d; decide

/-- A stream's destination of its source is the device itself, -/
theorem dn_up : ∀ (k : Fin 4) (d : Dev nD), dnDev k (upDev k d) = d
  | 0, d => rgt_lft d | 1, d => rgt_lft d | 2, d => lft_rgt d | 3, d => lft_rgt d
/-- and so is its source of its destination. -/
theorem up_dn : ∀ (k : Fin 4) (d : Dev nD), upDev k (dnDev k d) = d
  | 0, d => lft_rgt d | 1, d => lft_rgt d | 2, d => rgt_lft d | 3, d => rgt_lft d

/-- The devices, one place along a stream. -/
def dnE (k : Fin 4) : Dev nD ≃ Dev nD := ⟨dnDev k, upDev k, up_dn k, dn_up k⟩
/-- The devices, one place to the right. -/
def rgtE : Dev nD ≃ Dev nD := ⟨rgt, lft, lft_rgt, rgt_lft⟩

/-- Copies two steps apart land in the same slot. -/
theorem slotOf_add_two (s : ℕ) : slotOf (s + 1 + 1) = slotOf s := Fin.ext (by simp only [slotOf]; omega)

/-! ## The cells -/

/-- The second barrier, the credits, the send and the receive semaphores: those of the launch. -/
abbrev OK : Type := Unit ⊕ Fin 4 ⊕ (Fin 4 × Fin 2) ⊕ (Fin 4 × Fin 2)
/-- And the first barrier's, which is the runtime's. -/
abbrev CK : Type := Unit ⊕ OK

/-- The first barrier. -/
@[match_pattern] abbrev CK.bar : CK := .inl ()
/-- The second barrier. -/
@[match_pattern] abbrev CK.fin : CK := .inr (.inl ())
/-- The credits of a stream. -/
@[match_pattern] abbrev CK.cr (k : Fin 4) : CK := .inr (.inr (.inl k))
/-- A send semaphore of a stream. -/
@[match_pattern] abbrev CK.snd (k : Fin 4) (p : Fin 2) : CK := .inr (.inr (.inr (.inl (k, p))))
/-- A receive semaphore of a stream. -/
@[match_pattern] abbrev CK.rcv (k : Fin 4) (p : Fin 2) : CK := .inr (.inr (.inr (.inr (k, p))))

/-- The first barrier's semaphore. -/
abbrev barS : Sem sig := (SemArray.scalar (sig.barrier 0 rfl) : Sems sig S_).sem

/-- The semaphore of a cell of the launch. -/
def osem : OK → SemLoc sig
  | .inl _ => .reg cc0_scoped0.sem
  | .inr (.inl k) => .reg (creditS k)
  | .inr (.inr (.inl (k, p))) => .dma (semAt (sendA k) p)
  | .inr (.inr (.inr (k, p))) => .dma (semAt (recvA k) p)

/-- The semaphore of a cell. -/
def csem : CK → SemLoc sig
  | .inl _ => .reg barS
  | .inr o => osem o

/-- Which cell a semaphore is. -/
def ckOf : SemLoc sig → Option CK
  | .reg i => if i.val = 4 then some CK.bar else if i.val = 5 then some CK.fin else some (CK.cr ⟨i.val % 4, Nat.mod_lt _ (by decide)⟩)
  | .dma q => if q.val < 5 then none
      else if q.val < 13 then some (CK.snd ⟨((q.val - 5) / 2) % 4, Nat.mod_lt _ (by decide)⟩ ⟨(q.val - 5) % 2, Nat.mod_lt _ (by decide)⟩)
      else some (CK.rcv ⟨((q.val - 13) / 2) % 4, Nat.mod_lt _ (by decide)⟩ ⟨(q.val - 13) % 2, Nat.mod_lt _ (by decide)⟩)

/-- A cell's semaphore is read back as the cell. -/
theorem ckOf_csem : ∀ ck : CK, ckOf (csem ck) = some ck
  | CK.bar => by decide
  | CK.fin => by decide
  | CK.cr k => by fin_cases k <;> rfl
  | CK.snd k p => by fin_cases k <;> fin_cases p <;> rfl
  | CK.rcv k p => by fin_cases k <;> fin_cases p <;> rfl

/-- Two cells have two semaphores. -/
theorem csem_injective : Function.Injective csem := fun a b h => by
  have := congrArg ckOf h; rw [ckOf_csem, ckOf_csem] at this; exact Option.some.inj this

/-- A cell of device `c`. -/
abbrev cell (c : Dev nD) (ck : CK) : GSem nD τ sig := ((c : Thread nD τ), csem ck)

/-- Two devices' cells are equal only as the same cell of the same device. -/
theorem cell_inj {c c' : Dev nD} {ck ck' : CK} (h : cell c ck = cell c' ck') : c = c' ∧ ck = ck' :=
  ⟨congrArg (fun g : GSem nD τ sig => g.1.1) h, csem_injective (congrArg Prod.snd h)⟩

/-- What a copy of stream `k` credits. -/
def N (k : Fin 4) : ℕ := (slotM k 0).view.dmaCredit
/-- A copy credits something, -/
theorem N_pos (k : Fin 4) : 0 < N k := View.dmaCredit_pos _ (by decide)
/-- and as much from either slot. -/
theorem slot_credit (k : Fin 4) (p : Fin 2) : (slotM k p).view.dmaCredit = N k := rfl

/-! ## Contents -/

/-- The device's columns of `x`, as staged. -/
def xstg (c : Dev nD) : (cc0_stg0_0 : Ref sig .tc).ty.Contents (Elt F) :=
  (win0_0.blk (0 : Fin 1)).view.read (Elt F) ((s₀ m ρ).mem ((c : Thread nD τ).loc main_arg0))
/-- The device's rows of `w`, as staged. -/
def wstg (c : Dev nD) : (cc0_stg1_0 : Ref sig .tc).ty.Contents (Elt F) :=
  (win0_1.blk (0 : Fin 1)).view.read (Elt F) ((s₀ m ρ).mem ((c : Thread nD τ).loc main_arg1))
/-- The scale of `x`, as staged. -/
def sxstg (c : Dev nD) : (cc0_stg2_0 : Ref sig .tc).ty.Contents (Elt F) :=
  (win0_2.blk (0 : Fin 1)).view.read (Elt F) ((s₀ m ρ).mem ((c : Thread nD τ).loc main_arg2))
/-- The scale of `w`, as staged. -/
def swstg (c : Dev nD) : (cc0_stg3_0 : Ref sig .tc).ty.Contents (Elt F) :=
  (win0_3.blk (0 : Fin 1)).view.read (Elt F) ((s₀ m ρ).mem ((c : Thread nD τ).loc main_arg3))

/-- The block of `x` of the `r`-th product of stream `k`. -/
def xb (c : Dev nD) (k : Fin 4) (r : Fin 16) : Vec F S256x256 .fp8e5m2 :=
  (Memref.whole cc0_stg0_0).view.readAt (Elt F) (xR k c r).toLoadRect (xstg m ρ c)
/-- The columns of `w` of stream `k`. -/
def wb (c : Dev nD) (k : Fin 4) : Vec F S256x2048 .fp8e5m2 :=
  (Memref.whole cc0_stg1_0).view.readAt (Elt F) (colR k).toLoadRect (wstg m ρ c)

/-- What device `c` sends as copy `s` of stream `k`. -/
def acc (k : Fin 4) : ℕ → Dev nD → Vec F S1x256x2048 .bf16
  | 0, c => payFirst (xb m ρ c k 0) (wb m ρ c k)
  | s + 1, c => payNext (acc k s (upDev k c)) (xb m ρ c k (prodOf s)) (wb m ρ c k)

/-- Slot `p` of stream `k`'s buffer on device `c`, reading `v`. -/
def slotP (c : Dev nD) (k : Fin 4) (p : Fin 2) (v : Vec F S1x256x2048 .bf16) : sProp 𝕄 :=
  ownsTc c ((cm k).slice (slotR p) (fun _ => rfl)) fullShare v

omit [FloatOps F] in
/-- A slot with its contents can be handed over in a payload, -/
instance slotP_storable (c : Dev nD) (k : Fin 4) (p : Fin 2) (v) : BI.Storable (upEmb : UEmb _ 𝕄) (slotP (F := F) c k p v) := by
  unfold slotP; infer_instance

/-- The same at some contents. -/
def slotE (c : Dev nD) (k : Fin 4) (p : Fin 2) : sProp 𝕄 := iprop(∃ v, slotP (F := F) c k p v)

omit [FloatOps F] in
/-- and so can a slot with any contents. -/
instance slotE_storable (c : Dev nD) (k : Fin 4) (p : Fin 2) : BI.Storable (upEmb : UEmb _ 𝕄) (slotE (F := F) c k p) := by
  unfold slotE; infer_instance

/-! ## The schedule -/

/-- The duties of a round of a cell. -/
def dutC : CK → ℕ → Finset Bool
  | CK.bar, r => if r = 0 then Finset.univ else ∅
  | CK.fin, r => if r = 0 then Finset.univ else ∅
  | CK.cr _, r => if r < 14 then {false} else ∅
  | CK.snd _ p, r => if 2 * r + 1 - p.val ≤ 14 then {false} else ∅
  | CK.rcv _ p, r => if 2 * r + p.val ≤ 14 then {false} else ∅

/-- What a duty contributes. -/
def amtC : CK → ℕ
  | CK.bar => 1
  | CK.fin => 1
  | CK.cr _ => 1
  | CK.snd k _ => N k
  | CK.rcv k _ => N k

/-- What a duty hands the owner `c`. -/
def payC (c : Dev nD) : CK → ℕ → Bool → sProp 𝕄
  | CK.bar, _, false => iprop(slotE (rgt c) 0 0 ∗ slotE (rgt c) 1 0)
  | CK.bar, _, true => iprop(slotE (lft c) 2 0 ∗ slotE (lft c) 3 0)
  | CK.fin, _, _ => iprop(emp)
  | CK.cr k, r, _ => iprop(slotE (dnDev k c) k (slotOf (r + 1)) ∗ reached ER (cell (dnDev k c) (CK.rcv k (slotOf (r + 1)))) ((r + 1) / 2))
  | CK.snd k p, _, _ => slotE c k p
  | CK.rcv k p, r, _ => iprop(slotP c k p (acc m ρ k (2 * r + p.val) (upDev k c)) ∗ reached ER (cell (upDev k c) (CK.cr k)) (2 * r + p.val))

omit [FloatOps F] in
/-- What a finished send hands back can be kept in an invariant. -/
theorem payC_snd_storable (c : Dev nD) (k : Fin 4) (p : Fin 2) : BI.Storable (upEmb : UEmb _ 𝕄) (slotE (F := F) c k p) := inferInstance

/-- Every cell's payload can be kept in an invariant. -/
instance payC_storable (c : Dev nD) (r : ℕ) (d : Bool) : ∀ ck, BI.Storable (upEmb : UEmb _ 𝕄) (payC (F := F) m ρ c ck r d)
  | CK.bar => by cases d <;> (unfold payC; infer_instance)
  | CK.fin => by unfold payC; infer_instance
  | CK.cr k => by unfold payC; infer_instance
  | CK.snd k p => by unfold payC; infer_instance
  | CK.rcv k p => by unfold payC; infer_instance

/-- The schedule of every cell. -/
def Rd : Rounds.Schedule (GSem nD τ sig) Bool 𝕄 where
  duties g r := if g.1.2 = .tc then (ckOf g.2).elim ∅ fun ck => dutC ck r else ∅
  unitless _ := False
  amount g _ _ := (ckOf g.2).elim 1 amtC
  payload g r d := (ckOf g.2).elim iprop(emp) fun ck => payC m ρ g.1.1 ck r d
  amount_pos g r d _ := by
    cases ckOf g.2 with
    | none => exact Nat.one_pos
    | some ck =>
      rcases ck with _ | _ | k | ⟨k, p⟩ | ⟨k, p⟩
      · exact Nat.one_pos
      · exact Nat.one_pos
      · exact Nat.one_pos
      · exact N_pos k
      · exact N_pos k

/-- So can every payload of the schedule. -/
instance Rd_payload_storable (g : GSem nD τ sig) (r : ℕ) (d : Bool) :
    BI.Storable (upEmb : UEmb _ 𝕄) ((Rd (F := F) m ρ).payload g r d) := by
  show BI.Storable upEmb ((ckOf g.2).elim iprop(emp) fun ck => payC m ρ g.1.1 ck r d)
  cases ckOf g.2 with
  | none => show BI.Storable upEmb iprop(emp); infer_instance
  | some ck => exact payC_storable m ρ g.1.1 r d ck

/-- The schedule's duties of a cell are the cell's, -/
theorem Rd_duties (c : Dev nD) (ck : CK) (r : ℕ) : (Rd (F := F) m ρ).duties (cell c ck) r = dutC ck r := by
  show (if (c : Thread nD τ).2 = .tc then (ckOf (csem ck)).elim ∅ fun ck => dutC ck r else ∅) = _
  rw [if_pos rfl, ckOf_csem]; rfl
/-- its amounts -/
theorem Rd_amount (c : Dev nD) (ck : CK) (r : ℕ) (d : Bool) : (Rd (F := F) m ρ).amount (cell c ck) r d = amtC ck := by
  show (ckOf (csem ck)).elim 1 amtC = _
  rw [ckOf_csem]; rfl
/-- and its payloads too. -/
theorem Rd_payload (c : Dev nD) (ck : CK) (r : ℕ) (d : Bool) : (Rd (F := F) m ρ).payload (cell c ck) r d = payC m ρ c ck r d := by
  show (ckOf (csem ck)).elim _ (fun ck => payC m ρ c ck r d) = _
  rw [ckOf_csem]; rfl

/-- A credit cell has one duty in each of its fourteen rounds, -/
theorem dutC_cr {k : Fin 4} {s : ℕ} (h : s < 14) : dutC (CK.cr k) s = {false} := if_pos h
/-- a send cell in the round of each of the fifteen copies that use it, -/
theorem dutC_snd {k : Fin 4} {s : ℕ} (h : s ≤ 14) : dutC (CK.snd k (slotOf (s + 1))) (s / 2) = {false} :=
  if_pos (by show 2 * (s / 2) + 1 - (s + 1) % 2 ≤ 14; omega)
/-- and a receive cell likewise. -/
theorem dutC_rcv {k : Fin 4} {s : ℕ} (h : s ≤ 14) : dutC (CK.rcv k (slotOf s)) (s / 2) = {false} :=
  if_pos (by show 2 * (s / 2) + s % 2 ≤ 14; omega)

/-- A round of one duty expects its amount. -/
theorem expect_one {c : Dev nD} {ck : CK} {r : ℕ} (h : dutC ck r = {false}) : (Rd (F := F) m ρ).expect (cell c ck) r = amtC ck := by
  unfold Schedule.expect Schedule.amountOf; rw [Rd_duties, h, Finset.sum_singleton, Rd_amount]

/-- And hands its owner that duty's payload. -/
theorem rest_one {c : Dev nD} {ck : CK} {r : ℕ} (h : dutC ck r = {false}) :
    bigSep ((Rd (F := F) m ρ).duties (cell c ck) r \ ∅) (fun d => (Rd (F := F) m ρ).payload (cell c ck) r d) = payC m ρ c ck r false := by
  rw [Finset.sdiff_empty, Rd_duties, h, bigSep_singleton, Rd_payload]

/-- A barrier's round expects two units. -/
theorem expect_two {c : Dev nD} {ck : CK} (h : dutC ck 0 = Finset.univ) (ha : amtC ck = 1) : (Rd (F := F) m ρ).expect (cell c ck) 0 = 2 := by
  unfold Schedule.expect Schedule.amountOf
  rw [Rd_duties, h, Finset.sum_congr rfl fun d _ => (Rd_amount m ρ c ck 0 d).trans ha]; rfl

/-- Where a cell's first round has two duties, its payloads are the two. -/
theorem rest_two {c : Dev nD} {ck : CK} (h : dutC ck 0 = Finset.univ) :
    bigSep ((Rd (F := F) m ρ).duties (cell c ck) 0 \ ∅) (fun d => (Rd (F := F) m ρ).payload (cell c ck) 0 d)
      = iprop(payC m ρ c ck 0 false ∗ payC m ρ c ck 0 true) := by
  rw [Finset.sdiff_empty, Rd_duties, h, bigSep_univ_eq_bigSepL [false, true] (by decide) (by decide), bigSepL_cons_cons, bigSepL_singleton,
    Rd_payload, Rd_payload]
  rfl

/-- The rounds after the last one are empty. -/
theorem dut_end : ∀ (ck : CK) (R : ℕ), (match ck with | CK.bar => 1 | CK.fin => 1 | CK.cr _ => 14 | CK.snd _ p => 7 + p.val | CK.rcv _ p => 8 - p.val) ≤ R →
    ∀ c r, R ≤ r → (Rd (F := F) m ρ).duties (cell c ck) r = ∅ := by
  intro ck R hR c r hr
  rw [Rd_duties]
  rcases ck with _ | _ | k | ⟨k, p⟩ | ⟨k, p⟩
  · exact if_neg (by change 1 ≤ R at hR; omega)
  · exact if_neg (by change 1 ≤ R at hR; omega)
  · exact if_neg (by change 14 ≤ R at hR; omega)
  · exact if_neg (by change 7 + p.val ≤ R at hR; have := p.isLt; omega)
  · exact if_neg (by change 8 - p.val ≤ R at hR; have := p.isLt; omega)

/-! ## What is owed, and the levels -/

/-- The credits and the copies a device still has to issue, from an inner step on. -/
def stepO (c : Dev nD) (e : ℕ × Fin 4) (O : CellTallies nD τ sig ℕ) : CellTallies nD τ sig ℕ :=
  O + tallyAt (cell (dnDev e.2 c) (CK.rcv e.2 (slotOf (e.1 + 1)))) (e.1 + 1) (N e.2) + tallyAt (cell (upDev e.2 c) (CK.cr e.2)) e.1 1

/-- The second barrier's units. -/
def finO (c : Dev nD) : CellTallies nD τ sig ℕ :=
  tallyAt (cell (rgt c) CK.fin) 0 1 + tallyAt (cell (lft c) CK.fin) 0 1

/-- What is owed over a list of inner steps and the end. -/
def owedL (c : Dev nD) (l : List (ℕ × Fin 4)) : CellTallies nD τ sig ℕ := l.foldr (stepO c) (finO c)

/-- The first copies. -/
def copyO (c : Dev nD) (k : Fin 4) (O : CellTallies nD τ sig ℕ) : CellTallies nD τ sig ℕ :=
  O + tallyAt (cell (dnDev k c) (CK.rcv k (slotOf 0))) 0 (N k)

/-- What is owed after the first barrier's signals. -/
def midO (c : Dev nD) (l : List (Fin 4)) : CellTallies nD τ sig ℕ := l.foldr (copyO c) (owedL c steps)

/-- What a device owes at launch. -/
def O₀ (c : Dev nD) : CellTallies nD τ sig ℕ :=
  midO c [0, 1, 2, 3] + tallyAt (cell (rgt c) CK.bar) 0 1 + tallyAt (cell (lft c) CK.bar) 0 1

/-- The place of a stream within a step. -/
def pos : Fin 4 → ℕ | 0 => 0 | 1 => 2 | 2 => 1 | 3 => 3

/-- The indices of a cell. -/
def L (g : GSem nD τ sig) : Finset ℕ := if g.1.2 = .tc then Finset.range 16 else ∅

/-- The level of a cell's index: the time at which its owner waits for it. -/
def lvC : CK → ℕ → ℕ
  | CK.bar, _ => 1
  | CK.fin, _ => 1000
  | CK.cr k, i => 8 * i + 2 * pos k + 3
  | CK.snd _ _, _ => 0
  | CK.rcv k _, i => 8 * i + 2 * pos k + 2

/-- The level of a round of a semaphore. -/
def lv (g : GSem nD τ sig) (i : ℕ) : ℕ := (ckOf g.2).elim 0 fun ck => lvC ck i

/-- The level of a cell's round. -/
theorem lv_cell (c : Dev nD) (ck : CK) (i : ℕ) : lv (cell c ck) i = lvC ck i := by
  show (ckOf (csem ck)).elim 0 (fun ck => lvC ck i) = _
  rw [ckOf_csem]; rfl

/-- Only the tensor cores' semaphores have levels, -/
theorem L_of_ne (g : GSem nD τ sig) (h : g.1.2 ≠ .tc) : L g = ∅ := if_neg h
/-- each for sixteen rounds. -/
theorem L_tc (c : Dev nD) (sm : SemLoc sig) : L ((c : Thread nD τ), sm) = Finset.range 16 := if_pos rfl

/-- Everything in `O` is above level `n`. -/
def Above (n : ℕ) (O : CellTallies nD τ sig ℕ) : Prop := ∀ g i, 0 < O g i → i ∈ L g ∧ n < lv g i

/-- Nothing owed is above every level. -/
theorem Above.zero (n : ℕ) : Above n 0 := fun g i h => absurd h (Nat.lt_irrefl 0)

/-- What is owed stays above `n` with one more duty above `n`. -/
theorem Above.add {n : ℕ} {O : CellTallies nD τ sig ℕ} (h : Above n O) (c : Dev nD) (ck : CK) (i a : ℕ) (hi : i < 16) (hl : n < lvC ck i) :
    Above n (O + tallyAt (cell c ck) i a) := fun g j hg => by
  rw [Pi.add_apply, Finsupp.add_apply, tallyAt_apply] at hg
  by_cases hc : g = cell c ck ∧ j = i
  · obtain ⟨rfl, rfl⟩ := hc
    exact ⟨by rw [L_tc]; exact Finset.mem_range.mpr hi, by rw [lv_cell]; exact hl⟩
  · rw [if_neg hc, Nat.add_zero] at hg; exact h g j hg

/-- What is above a level is above every lower one. -/
theorem Above.mono {n n' : ℕ} {O : CellTallies nD τ sig ℕ} (h : Above n O) (hn : n' ≤ n) : Above n' O :=
  fun g i hg => ⟨(h g i hg).1, lt_of_le_of_lt hn (h g i hg).2⟩

omit [FloatOps F] in
/-- A wait below everything owed may be made. -/
theorem mayWait {c : Dev nD} {ck : CK} {i : ℕ} (hi : i < 16) {O : CellTallies nD τ sig ℕ} (h : Above (lvC ck i) O) :
    (levAts L lv : sProp 𝕄) ⊢ MayWait (c : Thread nD τ) (csem ck) i O :=
  MayOwe.of_cut (L := L) (lev := lv) (lvC ck i) (fun p hp => by rw [Finset.mem_singleton.mp hp, L_tc]; exact Finset.mem_range.mpr hi)
    (fun g u hg => (h g u hg).1)
    (fun p hp => by rw [Finset.mem_singleton.mp hp]; exact le_of_eq (lv_cell c ck i))
    (fun g u hg => (h g u hg).2)

/-- The key of an inner step. -/
abbrev key (e : ℕ × Fin 4) : ℕ := 8 * e.1 + 2 * pos e.2

/-- The duties of the closing barrier are above every level below 1000. -/
theorem finO_above (c : Dev nD) {n : ℕ} (hn : n < 1000) : Above n (finO c) := by
  unfold finO
  have := ((Above.zero n).add (rgt c) CK.fin 0 1 (by decide) hn).add (lft c) CK.fin 0 1 (by decide) hn
  rwa [zero_add] at this

/-- The duties of an inner step are above the levels up to the step's own waits. -/
theorem stepO_above {c : Dev nD} {e : ℕ × Fin 4} {O : CellTallies nD τ sig ℕ} {n : ℕ} (hO : Above n O) (he : e.1 < 14) (h : n < key e + 3) :
    Above n (stepO c e O) := by
  unfold stepO
  exact (hO.add _ (CK.rcv _ _) _ _ (by omega) (show n < 8 * (e.1 + 1) + 2 * pos e.2 + 2 by unfold key at h; omega)).add _ (CK.cr _) _ _ (by omega)
    (show n < 8 * e.1 + 2 * pos e.2 + 3 from h)

/-- What is owed for a list of inner steps is above a level that each of them is above. -/
theorem owedL_above (c : Dev nD) {n : ℕ} (hn : n < 1000) : ∀ l : List (ℕ × Fin 4), (∀ e ∈ l, e.1 < 14 ∧ n < key e + 3) → Above n (owedL c l)
  | [], _ => finO_above c hn
  | e :: l, h => stepO_above (owedL_above c hn l fun x hx => h x (List.mem_cons_of_mem _ hx)) (h e List.mem_cons_self).1 (h e List.mem_cons_self).2

/-- What is owed after the entry barrier is above its level. -/
theorem midO_above (c : Dev nD) {n : ℕ} (hn : n < 2) : ∀ l : List (Fin 4), Above n (midO c l)
  | [] => owedL_above c (by omega) _ fun e he => ⟨by revert e; decide, by omega⟩
  | k :: l => (midO_above c hn l).add _ (CK.rcv k _) _ _ (by decide) (show n < 8 * 0 + 2 * pos k + 2 by omega)

/-- All that is owed at the start is above level zero. -/
theorem O₀_above (c : Dev nD) : Above 0 (O₀ c) :=
  ((midO_above c (by decide) _).add _ CK.bar _ _ (by decide) (by decide)).add _ CK.bar _ _ (by decide) (by decide)

end Cert.KernelIdeal.K1

end
-- ==== Proof.KIStep.lean ====
/- One exchange step of one stream, at a symbolic step, stream and device: from what the stream holds
   before it to what it holds after it. -/
module

public import proofs.«01_k».proof.Proof.KIProto
public import Idealize.ShloMosaic.Lib.ViewIndex

@[expose] public section

noncomputable section

namespace Cert.KernelIdeal.K1

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- No variants. -/
abbrev 𝒱₀ : Variants := Variants.none

/-! ## Loads and stores -/

/-- A load of a slot. -/
theorem load_slot (c : Dev nD) (k : Fin 4) (p : Fin 2) (v : Vec F S1x256x2048 .bf16) {hl}
    {kt : Vec F S1x256x2048 .bf16 → KProg F} {Q : PUnit → sProp 𝕄} :
    slotP c k p v ⊢ iprop((slotP c k p v -∗ wp frame (wpE (defs₀ (F := F)) 𝒱₀ (c : Thread nD τ) none) Set.univ (kt v) Q)
      -∗ wp frame (wpE (defs₀ (F := F)) 𝒱₀ (c : Thread nD τ) none) Set.univ (.op (.load (cm k) (slotR p).toLoadRect hl) kt) Q) := by
  unfold slotP ownsTc owns
  iintro ⟨%f, %hf, H⟩ Hk
  subst hf
  iapply (wp_load_rect 𝒱₀ (c : Thread nD τ) none Set.univ (m := cm k) (r := slotR p) (Finset.Subset.refl _)) $$ H
  iintro H
  iapply Hk
  iexists f
  isplitr; · ipureintro; rfl
  iexact H

/-- A store to a slot. -/
theorem store_slot (c : Dev nD) (k : Fin 4) (p : Fin 2) (v w : Vec F S1x256x2048 .bf16) {hx} {hm}
    {kt : PUnit → KProg F} {Q : PUnit → sProp 𝕄} :
    slotP c k p v ⊢ iprop((slotP c k p w -∗ wp frame (wpE (defs₀ (F := F)) 𝒱₀ (c : Thread nD τ) none) Set.univ (kt ⟨⟩) Q)
      -∗ wp frame (wpE (defs₀ (F := F)) 𝒱₀ (c : Thread nD τ) none) Set.univ (.op (.store (cm k) (slotR p) w Finset.univ hx hm) kt) Q) := by
  unfold slotP ownsTc owns
  iintro ⟨%f, %hf, H⟩ Hk
  iapply (wp_store 𝒱₀ (c : Thread nD τ) none Set.univ (m := cm k) (r := slotR p) (Mk := Finset.univ) (S := ((cm k).access (slotR p)).set)
    (by rw [View.setOn_univ])) $$ H
  iintro H
  iapply Hk
  iexists (((cm k).access (slotR p)).write (Elt F) f w Finset.univ)
  isplitr
  · ipureintro; exact View.read_write_univ (v := (cm k).view.slice (slotR p)) f w
  iexact H

/-- The device's columns of `x`, held whole in their staging buffer. -/
def xPt (c : Dev nD) : sProp 𝕄 := ((c : Thread nD τ).loc cc0_stg0_0) ↦{fullShare} xstg m ρ c
/-- The device's rows of `w`, held whole in their staging buffer. -/
def wPt (c : Dev nD) : sProp 𝕄 := ((c : Thread nD τ).loc cc0_stg1_0) ↦{fullShare} wstg m ρ c

/-- A load of rows of `x`. -/
theorem load_x (c : Dev nD) (k : Fin 4) (r : Fin 16) {hl} {kt : Vec F S256x256 .fp8e5m2 → KProg F} {Q : PUnit → sProp 𝕄} :
    xPt m ρ c ⊢ iprop((xPt m ρ c -∗ wp frame (wpE (defs₀ (F := F)) 𝒱₀ (c : Thread nD τ) none) Set.univ (kt (xb m ρ c k r)) Q)
      -∗ wp frame (wpE (defs₀ (F := F)) 𝒱₀ (c : Thread nD τ) none) Set.univ
          (.op (.load (Memref.whole cc0_stg0_0) (xR k c r).toLoadRect hl) kt) Q) := by
  unfold xPt xb
  exact wp_load 𝒱₀ (c : Thread nD τ) none Set.univ (m := Memref.whole cc0_stg0_0) (Finset.subset_univ _)

/-- A load of columns of `w`. -/
theorem load_w (c : Dev nD) (k : Fin 4) {hl} {kt : Vec F S256x2048 .fp8e5m2 → KProg F} {Q : PUnit → sProp 𝕄} :
    wPt m ρ c ⊢ iprop((wPt m ρ c -∗ wp frame (wpE (defs₀ (F := F)) 𝒱₀ (c : Thread nD τ) none) Set.univ (kt (wb m ρ c k)) Q)
      -∗ wp frame (wpE (defs₀ (F := F)) 𝒱₀ (c : Thread nD τ) none) Set.univ
          (.op (.load (Memref.whole cc0_stg1_0) (colR k).toLoadRect hl) kt) Q) := by
  unfold wPt wb
  exact wp_load 𝒱₀ (c : Thread nD τ) none Set.univ (m := Memref.whole cc0_stg1_0) (Finset.subset_univ _)

/-- What is read of one view and written through a re-indexing of another is read there. -/
theorem read_copy {κ κ' : Kind} {sp sp' : Space} {s s' : Shape} {e : EltTy} (v : View sig κ sp s e) (v' : View sig κ' sp' s e) (h : s'.numel = s.numel)
    (fd : v.ty.Contents (Elt F)) (fs : v'.ty.Contents (Elt F)) :
    v.read (Elt F) ((v.reshape s' h).write (Elt F) fd ((v'.reshape s' h).read (Elt F) fs) Finset.univ) = v'.read (Elt F) fs := by
  funext x
  obtain ⟨y, rfl⟩ := (Shape.reshapeEquiv h).surjective x
  exact View.read_write_reshape v h fd _ y

/-! ## The records -/

/-- The cells can be told apart. -/
instance : DecidableEq OK := instDecidableEqSum
/-- So can all of them with the barrier's. -/
instance : DecidableEq CK := instDecidableEqSum

/-- Every cell's invariant, and that every cell has reached round zero. -/
def records (K : Dev nD × CK → ℕ) : sProp 𝕄 :=
  iprop((bigSep Finset.univ fun e : Dev nD × CK => cellInv ER (Rd m ρ) (K e) (cell e.1 e.2))
    ∗ bigSep Finset.univ fun e : Dev nD × CK => reached ER (cell e.1 e.2) 0)

/-- The records may be used any number of times. -/
instance records_persistent (K : Dev nD × CK → ℕ) : BI.Persistent (records m ρ K) := by unfold records; infer_instance

/-- The records hold each cell's invariant, -/
theorem inv_of (K : Dev nD × CK → ℕ) (c : Dev nD) (ck : CK) : records m ρ K ⊢ cellInv ER (Rd m ρ) (K (c, ck)) (cell c ck) := by
  unfold records
  iintro ⟨H, -⟩
  iapply (show (bigSep Finset.univ fun e : Dev nD × CK => (cellInv ER (Rd m ρ) (K e) (cell e.1 e.2) : sProp 𝕄)) ⊢ cellInv ER (Rd m ρ) (K (c, ck)) (cell c ck) from
    bigSep_elim (Finset.mem_univ (c, ck)))
  iexact H

/-- and that each cell has reached round zero. -/
theorem reached_of (K : Dev nD × CK → ℕ) (c : Dev nD) (ck : CK) : records m ρ K ⊢ reached ER (cell c ck) 0 := by
  unfold records
  iintro ⟨-, H⟩
  iapply (show (bigSep Finset.univ fun e : Dev nD × CK => (reached ER (cell e.1 e.2) 0 : sProp 𝕄)) ⊢ reached ER (cell c ck) 0 from
    bigSep_elim (Finset.mem_univ (c, ck)))
  iexact H

/-! ## A copy -/

/-- Copy `s` of stream `k` from device `c`: the slot it is read from and the slot of the next device it is
    written to go in, with that the issuer has reached its credit round `s`. -/
theorem copy_spec (K : Dev nD × CK → ℕ) (c : Dev nD) (k : Fin 4) (s : ℕ) (hs : s ≤ 14) (O : CellTallies nD τ sig ℕ) (W : Waits sig ℕ)
    (rest : KProg F) (Q : PUnit → sProp 𝕄) :
    iprop(records m ρ K ∗ slotP c k (slotOf (s + 1)) (acc m ρ k s c) ∗ slotE (dnDev k c) k (slotOf s) ∗ reached ER (cell c (CK.cr k)) s
        ∗ owes (c : Thread nD τ) (O + tallyAt (cell (dnDev k c) (CK.rcv k (slotOf s))) s (N k)) W
        ∗ dutyTok ER (cell c (CK.snd k (slotOf (s + 1)))) (s / 2) false ∗ reached ER (cell c (CK.snd k (slotOf (s + 1)))) (s / 2)
        ∗ dutyTok ER (cell (dnDev k c) (CK.rcv k (slotOf s))) (s / 2) false ∗ reached ER (cell (dnDev k c) (CK.rcv k (slotOf s))) (s / 2))
      ⊢ iprop(((cred (tallyAt (cell c (CK.snd k (slotOf (s + 1)))) 0 (N k)) ∗ owes (c : Thread nD τ) O W)
            -∗ wp frame (wpE (defs₀ (F := F)) 𝒱₀ (c : Thread nD τ) none) Set.univ rest Q)
          -∗ wp frame (wpE (defs₀ (F := F)) 𝒱₀ (c : Thread nD τ) none) Set.univ (copyThen c k (slotOf (s + 1)) (slotOf s) rest) Q) := by
  unfold slotE slotP ownsTc owns copyThen
  iintro ⟨#HR, ⟨%fs, %hfs, Hs⟩, ⟨%v, %fd, %hfd, Hd⟩, #Hc, HO, Ht1, #Hr1, Ht2, #Hr2⟩ Hk
  ihave #HI1 := (inv_of m ρ K c (CK.snd k (slotOf (s + 1)))) $$ HR
  ihave #HI2 := (inv_of m ρ K (dnDev k c) (CK.rcv k (slotOf s))) $$ HR
  have hset (p : Fin 2) : (slotM k p).view.set = ((cm k).view.slice (slotR p)).set := View.set_reshape _ _
  iapply (Rounds.wp_send_pointsTo_with 𝒱₀ ER (Rd m ρ) (c : Thread nD τ) none (c' := (dnDev k c : Thread nD τ))
    (src := slotM k (slotOf (s + 1))) (dst := slotM k (slotOf s)) (q := fullShare) (fs := fs) (fd := fd)
    (F := reached ER (cell c (CK.cr k)) s)
    (sS := csem (CK.snd k (slotOf (s + 1)))) (sem := csem (CK.rcv k (slotOf s)))
    (κ₁ := K (c, CK.snd k (slotOf (s + 1)))) (κ₂ := K (dnDev k c, CK.rcv k (slotOf s)))
    (r₁ := s / 2) (r₂ := s / 2) (d₁ := false) (d₂ := false)
    (by rw [Rd_duties, dutC_snd hs]; exact Finset.mem_singleton_self _) (by rw [Rd_duties, dutC_rcv hs]; exact Finset.mem_singleton_self _)
    s 0 (N k) rfl (Rd_amount m ρ c _ _ _) (Rd_amount m ρ (dnDev k c) _ _ _) O rfl (W := W)
    (by
      rw [Rd_payload, hset]
      show _ ⊢ slotE c k (slotOf (s + 1))
      unfold slotE slotP ownsTc owns
      iintro H
      iexists (acc m ρ k s c), fs
      isplitr; · ipureintro; exact hfs
      iexact H)
    (by
      rw [Rd_payload, hset]
      show _ ⊢ iprop(slotP (dnDev k c) k (slotOf s) (acc m ρ k (2 * (s / 2) + s % 2) (upDev k (dnDev k c))) ∗ reached ER (cell (upDev k (dnDev k c)) (CK.cr k)) (2 * (s / 2) + s % 2))
      rw [up_dn, Nat.div_add_mod]
      iintro ⟨H, Hc⟩
      isplitl [H]
      · unfold slotP ownsTc owns
        iexists _
        isplitr
        rotate_left
        · iexact H
        · ipureintro
          refine (read_copy ((cm k).view.slice (slotR (slotOf s))) ((cm k).view.slice (slotR (slotOf (s + 1)))) _ fd fs).trans hfs
      · iexact Hc)) $$ [Hs Hd HO Ht1 Ht2]
  · isplitr; · iexact HI1
    isplitr; · iexact HI2
    isplitl [Hs]; · rw [hset]; iexact Hs
    isplitl [Hd]
    · isplitl [Hd]; · rw [hset]; iexact Hd
      iexact Hc
    isplitl [HO]; · iexact HO
    isplitl [Ht1]; · iexact Ht1
    isplitr; · iexact Hr1
    isplitl [Ht2]; · iexact Ht2
    iexact Hr2
  iexact Hk

/-! ## An inner step -/

/-- What stream `k` of device `c` holds before step `s`: nothing of its buffer, whose one slot is being
    read by copy `s` of its own and whose other slot is being written by copy `s` of its neighbour. -/
def St (c : Dev nD) (k : Fin 4) (s : ℕ) : sProp 𝕄 :=
  iprop(atPos ER (cell c (CK.snd k (slotOf (s + 1)))) (s / 2) ∅ 0 ∗ atPos ER (cell c (CK.snd k (slotOf s))) ((s + 1) / 2) ∅ 0
    ∗ atPos ER (cell c (CK.rcv k (slotOf s))) (s / 2) ∅ 0 ∗ atPos ER (cell c (CK.rcv k (slotOf (s + 1)))) ((s + 1) / 2) ∅ 0
    ∗ atPos ER (cell c (CK.cr k)) s ∅ 0
    ∗ reached ER (cell c (CK.snd k (slotOf s))) ((s + 1) / 2) ∗ reached ER (cell c (CK.rcv k (slotOf (s + 1)))) ((s + 1) / 2)
    ∗ cred (tallyAt (cell c (CK.snd k (slotOf (s + 1)))) 0 (N k)) ∗ cred (tallyAt (cell c (CK.rcv k (slotOf s))) s (N k)))

/-- The tokens that step spends: of the credit it gives, of the copy it issues; and the expected credit and copy. -/
def stepTok (c : Dev nD) (k : Fin 4) (s : ℕ) : sProp 𝕄 :=
  iprop(dutyTok ER (cell (upDev k c) (CK.cr k)) s false
    ∗ dutyTok ER (cell c (CK.snd k (slotOf (s + 1 + 1)))) ((s + 1) / 2) false
    ∗ dutyTok ER (cell (dnDev k c) (CK.rcv k (slotOf (s + 1)))) ((s + 1) / 2) false)
/-- What an inner step may expect: its copy's arrival and the credit that it awaits. -/
def stepCred (c : Dev nD) (k : Fin 4) (s : ℕ) : sProp 𝕄 :=
  iprop(cred (tallyAt (cell c (CK.rcv k (slotOf (s + 1)))) (s + 1) (N k)) ∗ cred (tallyAt (cell c (CK.cr k)) s 1))

/-- The two waits at the start of step `s`: both slots come back, the own copy's and the arrived block's. -/
theorem waits_spec (K : Dev nD × CK → ℕ) (c : Dev nD) (k : Fin 4) (s : ℕ) (hs : s ≤ 14) (O : CellTallies nD τ sig ℕ)
    (hO : Above (8 * s + 2 * pos k + 2) O) (rest : KProg F) (Q : PUnit → sProp 𝕄) :
    iprop(records m ρ K ∗ levAts L lv ∗ atPos ER (cell c (CK.snd k (slotOf (s + 1)))) (s / 2) ∅ 0 ∗ atPos ER (cell c (CK.rcv k (slotOf s))) (s / 2) ∅ 0
        ∗ cred (tallyAt (cell c (CK.snd k (slotOf (s + 1)))) 0 (N k)) ∗ cred (tallyAt (cell c (CK.rcv k (slotOf s))) s (N k))
        ∗ ∃ W, owes (c : Thread nD τ) O W)
      ⊢ iprop(((atPos ER (cell c (CK.snd k (slotOf (s + 1)))) (s / 2 + 1) ∅ 0 ∗ atPos ER (cell c (CK.rcv k (slotOf s))) (s / 2 + 1) ∅ 0
            ∗ reached ER (cell c (CK.snd k (slotOf (s + 1)))) (s / 2 + 1) ∗ reached ER (cell c (CK.rcv k (slotOf s))) (s / 2 + 1)
            ∗ slotE c k (slotOf (s + 1)) ∗ slotP c k (slotOf s) (acc m ρ k s (upDev k c)) ∗ reached ER (cell (upDev k c) (CK.cr k)) s
            ∗ ∃ W, owes (c : Thread nD τ) O W)
            -∗ wp frame (wpE (defs₀ (F := F)) 𝒱₀ (c : Thread nD τ) none) Set.univ rest Q)
          -∗ wp frame (wpE (defs₀ (F := F)) 𝒱₀ (c : Thread nD τ) none) Set.univ (waitsThen k (slotOf s) (slotOf (s + 1)) rest) Q) := by
  unfold waitsThen
  iintro ⟨#HR, #Hlev, HaS, HaV, HcS, HcV, ⟨%W, HO⟩⟩ Hk
  ihave #HI1 := (inv_of m ρ K c (CK.snd k (slotOf (s + 1)))) $$ HR
  ihave #HI2 := (inv_of m ρ K c (CK.rcv k (slotOf s))) $$ HR
  iapply (Rounds.wp_wait_rest_token 𝒱₀ ER (Rd m ρ) (c : Thread nD τ) none (κ := K (c, CK.snd k (slotOf (s + 1))))
      (sm := csem (CK.snd k (slotOf (s + 1)))) (wpE_waitDma2_eq 𝒱₀ (c : Thread nD τ) none Set.univ) (Set.mem_univ _) 0 (O := O) (W := W) (R := s / 2) (m := 0) (T := ∅)
      (by rw [Nat.zero_add, slot_credit]; exact (expect_one m ρ (dutC_snd hs)).symm)) $$ [HcS HO HaS]
  · isplitr; · iexact HI1
    isplitl [HcS]; · iexact HcS
    isplitl [HO]; · iexact HO
    isplitr; · iapply (mayWait (c := c) (ck := CK.snd k (slotOf (s + 1))) (by decide) (hO.mono (Nat.zero_le _))); iexact Hlev
    iexact HaS
  iintro ⟨HO, HaS, #HrS, Hp1⟩
  ihave Hp1 := (Entails.of_eq ((rest_one m ρ (c := c) (dutC_snd (k := k) hs)).trans (show _ = slotE c k (slotOf (s + 1)) from rfl))) $$ Hp1
  iapply (Rounds.wp_wait_rest_token 𝒱₀ ER (Rd m ρ) (c : Thread nD τ) none (κ := K (c, CK.rcv k (slotOf s)))
      (sm := csem (CK.rcv k (slotOf s))) (wpE_waitDma2_eq 𝒱₀ (c : Thread nD τ) none Set.univ) (Set.mem_univ _) s (O := O) (R := s / 2) (m := 0) (T := ∅)
      (by rw [Nat.zero_add, slot_credit]; exact (expect_one m ρ (dutC_rcv hs)).symm)) $$ [HcV HO HaV]
  · isplitr; · iexact HI2
    isplitl [HcV]; · iexact HcV
    isplitl [HO]; · iexact HO
    isplitr; · iapply (mayWait (c := c) (ck := CK.rcv k (slotOf s)) (by omega) hO); iexact Hlev
    iexact HaV
  iintro ⟨HO, HaV, #HrV, Hp2⟩
  ihave Hp2 := (Entails.of_eq ((rest_one m ρ (c := c) (dutC_rcv (k := k) hs)).trans (show _ =
    iprop(slotP c k (slotOf s) (acc m ρ k s (upDev k c)) ∗ reached ER (cell (upDev k c) (CK.cr k)) s) from by
      show iprop(slotP c k (slotOf s) (acc m ρ k (2 * (s / 2) + s % 2) (upDev k c)) ∗ reached ER (cell (upDev k c) (CK.cr k)) (2 * (s / 2) + s % 2)) = _
      rw [Nat.div_add_mod]))) $$ Hp2
  icases Hp2 with ⟨Hslot, #Hcr⟩
  iapply Hk
  isplitl [HaS]; · iexact HaS
  isplitl [HaV]; · iexact HaV
  isplitr; · iexact HrS
  isplitr; · iexact HrV
  isplitl [Hp1]; · iexact Hp1
  isplitl [Hslot]; · iexact Hslot
  isplitr; · iexact Hcr
  iexists _; iexact HO

/-- An inner step. -/
theorem step_spec (K : Dev nD × CK → ℕ) (c : Dev nD) (k : Fin 4) (s : ℕ) (hs : s < 14) (O : CellTallies nD τ sig ℕ)
    (hO : Above (8 * s + 2 * pos k + 3) O) (rest : KProg F) (Q : PUnit → sProp 𝕄) :
    iprop(records m ρ K ∗ levAts L lv ∗ St c k s ∗ stepTok c k s ∗ stepCred c k s ∗ xPt m ρ c ∗ wPt m ρ c
        ∗ ∃ W, owes (c : Thread nD τ) (stepO c (s, k) O) W)
      ⊢ iprop(((St c k (s + 1) ∗ xPt m ρ c ∗ wPt m ρ c ∗ ∃ W, owes (c : Thread nD τ) O W)
            -∗ wp frame (wpE (defs₀ (F := F)) 𝒱₀ (c : Thread nD τ) none) Set.univ rest Q)
          -∗ wp frame (wpE (defs₀ (F := F)) 𝒱₀ (c : Thread nD τ) none) Set.univ (stepThen c k s rest) Q) := by
  unfold stepThen St stepTok stepCred
  iintro ⟨#HR, #Hlev, ⟨HaS, HaS', HaV, HaV', HaC, #HrS', #HrV', HcS, HcV⟩, ⟨HtC, HtS, HtV⟩, ⟨HcV', HcC⟩, Hx, Hw, HO⟩ Hk
  have hO' : Above (8 * s + 2 * pos k + 3) (O + tallyAt (cell (dnDev k c) (CK.rcv k (slotOf (s + 1)))) (s + 1) (N k)) :=
    hO.add _ (CK.rcv _ _) _ _ (by omega) (show _ < 8 * (s + 1) + 2 * pos k + 2 by omega)
  iapply (waits_spec m ρ K c k s (by omega) (stepO c (s, k) O)
    (stepO_above (e := (s, k)) (hO.mono (by omega)) hs (by show _ < 8 * s + 2 * pos k + 3; omega))) $$ [HaS HaV HcS HcV HO]
  · isplitr; · iexact HR
    isplitr; · iexact Hlev
    isplitl [HaS]; · iexact HaS
    isplitl [HaV]; · iexact HaV
    isplitl [HcS]; · iexact HcS
    isplitl [HcV]; · iexact HcV
    iexact HO
  iintro ⟨HaS, HaV, #HrS, #HrV, Hfree, Hslot, #HcrUp, ⟨%W, HO⟩⟩
  unfold mergeThen stepO
  -- the credit: the slot the own copy has left goes to the neighbour
  ihave #HIc := (inv_of m ρ K (upDev k c) (CK.cr k)) $$ HR
  iapply (Rounds.wp_signal 𝒱₀ ER (Rd m ρ) (c : Thread nD τ) none (dst := (upDev k c : Thread nD τ)) (κ := K (upDev k c, CK.cr k))
      (r := s) (d := false) (k' := 1) (sem := creditS k) (by show false ∈ (Rd m ρ).duties (cell (upDev k c) (CK.cr k)) s; rw [Rd_duties, dutC_cr hs]; exact Finset.mem_singleton_self _) (Rd_amount m ρ (upDev k c) (CK.cr k) s false) s _ rfl (W := W))
    $$ [HO HtC Hfree]
  · isplitr; · iexact HIc
    isplitl [HO]; · iexact HO
    isplitl [HtC]; · iexact HtC
    isplitl [Hfree]
    · iapply (Entails.of_eq (show (Rd m ρ).payload ((upDev k c : Thread nD τ), SemLoc.reg (creditS k)) s false = _ from (Rd_payload m ρ (upDev k c) (CK.cr k) s false).trans (show _ =
        iprop(slotE c k (slotOf (s + 1)) ∗ reached ER (cell c (CK.rcv k (slotOf (s + 1)))) ((s + 1) / 2)) from by
          show iprop(slotE (dnDev k (upDev k c)) k (slotOf (s + 1)) ∗ reached ER (cell (dnDev k (upDev k c)) (CK.rcv k (slotOf (s + 1)))) ((s + 1) / 2)) = _
          rw [dn_up])).symm)
      isplitl [Hfree]; · iexact Hfree
      iexact HrV'
    · iexact HcrUp
  iintro HO
  -- the merge
  iapply (load_slot c k (slotOf s) _) $$ Hslot; iintro Hslot
  iapply (load_x m ρ c k (prodOf s)) $$ Hx; iintro Hx
  iapply (load_w m ρ c k) $$ Hw; iintro Hw
  iapply (load_slot c k (slotOf s) _) $$ Hslot; iintro Hslot
  iapply (store_slot c k (slotOf s) _ _) $$ Hslot; iintro Hslot
  -- the credit of the next device
  ihave #HIo := (inv_of m ρ K c (CK.cr k)) $$ HR
  iapply (Rounds.wp_wait_rest_token 𝒱₀ ER (Rd m ρ) (c : Thread nD τ) none (κ := K (c, CK.cr k)) (k' := 1)
      (sm := csem (CK.cr k)) (wpE_semWait_eq 𝒱₀ (c : Thread nD τ) none Set.univ) (Set.mem_univ _) s (R := s) (m := 0) (T := ∅)
      (by rw [Nat.zero_add]; exact (expect_one m ρ (dutC_cr (k := k) hs)).symm)) $$ [HcC HO HaC]
  · isplitr; · iexact HIo
    isplitl [HcC]; · iexact HcC
    isplitl [HO]; · iexact HO
    isplitr; · iapply (mayWait (c := c) (ck := CK.cr k) (by omega) hO'); iexact Hlev
    iexact HaC
  iintro ⟨HO, HaC, #HrC, Hp⟩
  ihave Hp := (Entails.of_eq ((rest_one m ρ (c := c) (dutC_cr (k := k) hs)).trans (show _ =
    iprop(slotE (dnDev k c) k (slotOf (s + 1)) ∗ reached ER (cell (dnDev k c) (CK.rcv k (slotOf (s + 1)))) ((s + 1) / 2)) from rfl))) $$ Hp
  icases Hp with ⟨Hdst, #HrD⟩
  -- the copy
  rw [← slotOf_add_two s]
  iapply (copy_spec m ρ K c k (s + 1) (by omega) O _ rest Q) $$ [Hslot Hdst HO HtS HtV]
  · isplitr; · iexact HR
    isplitl [Hslot]; · iexact Hslot
    isplitl [Hdst]; · iexact Hdst
    isplitr; · iexact HrC
    isplitl [HO]; · iexact HO
    isplitl [HtS]; · iexact HtS
    isplitr; · iexact HrS'
    isplitl [HtV]; · iexact HtV
    iexact HrD
  iintro ⟨HcS, HO⟩
  have h2 : (s + 1 + 1) / 2 = s / 2 + 1 := by omega
  iapply Hk
  rw [h2]
  isplitr [Hx Hw HO]
  · isplitl [HaS']; · iexact HaS'
    isplitl [HaS]; · iexact HaS
    isplitl [HaV']; · iexact HaV'
    isplitl [HaV]; · iexact HaV
    isplitl [HaC]; · iexact HaC
    isplitr; · iexact HrS
    isplitr; · iexact HrV
    isplitl [HcS]; · iexact HcS
    iexact HcV'
  isplitl [Hx]; · iexact Hx
  isplitl [Hw]; · iexact Hw
  iexists _; iexact HO

end Cert.KernelIdeal.K1

end
-- ==== Proof.KIBody.lean ====
/- The body of one device: the first products, the handshake, the first copies, the inner steps by rows,
   the last step of every stream, and the second handshake. -/
module

public import proofs.«01_k».proof.Proof.KIStep
public import Idealize.ShloMosaic.Lib.Pointwise.Index

@[expose] public section

noncomputable section

namespace Cert.KernelIdeal.K1

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The inner steps -/

/-- The four streams' assertions together. -/
abbrev all4 (Φ : Fin 4 → sProp 𝕄) : sProp 𝕄 := iprop(Φ 0 ∗ Φ 1 ∗ Φ 2 ∗ Φ 3)

/-- What a list of inner steps spends. -/
def resL (c : Dev nD) : List (ℕ × Fin 4) → sProp 𝕄
  | [] => iprop(emp)
  | e :: l => iprop((stepTok c e.2 e.1 ∗ stepCred c e.2 e.1) ∗ resL c l)

/-- The steps of a row. -/
abbrev row (s : ℕ) : List (ℕ × Fin 4) := order.map fun k => (s, k)

/-- The step of an entry of consecutive rows lies in their range. -/
theorem mem_rows {a n : ℕ} {e : ℕ × Fin 4} (h : e ∈ (List.range' a n).flatMap row) : a ≤ e.1 ∧ e.1 < a + n := by
  obtain ⟨s, hs, he⟩ := List.mem_flatMap.mp h
  obtain ⟨k, -, rfl⟩ := List.mem_map.mp he
  rw [List.mem_range'_1] at hs
  exact hs

/-- What is owed after some steps of row `s` is above an earlier step of it. -/
theorem rest_above (c : Dev nD) {s n : ℕ} (hn : s + 1 + n = 14) (k : Fin 4) (l : List (Fin 4)) (hl : ∀ k' ∈ l, pos k < pos k') :
    Above (8 * s + 2 * pos k + 3) (owedL c (l.map (fun k => (s, k)) ++ (List.range' (s + 1) n).flatMap row)) := by
  have hp : pos k ≤ 3 := by fin_cases k <;> decide
  refine owedL_above c (by omega) _ fun e he => ?_
  rcases List.mem_append.mp he with he | he
  · obtain ⟨k', hk', rfl⟩ := List.mem_map.mp he
    have := hl k' hk'
    exact ⟨by show s < 14; omega, by show _ < 8 * s + 2 * pos k' + 3; omega⟩
  · have := mem_rows he
    exact ⟨by omega, by unfold key; omega⟩

/-- The inner steps from row `s` on. -/
theorem rows_spec (K : Dev nD × CK → ℕ) (c : Dev nD) (rest : KProg F) (Q : PUnit → sProp 𝕄) : ∀ (n s : ℕ), s + n = 14 →
    (iprop(records m ρ K ∗ levAts L lv ∗ all4 (fun k => St c k s) ∗ resL c ((List.range' s n).flatMap row) ∗ xPt m ρ c ∗ wPt m ρ c
        ∗ ∃ W, owes (c : Thread nD τ) (owedL c ((List.range' s n).flatMap row)) W)
      ⊢ iprop(((all4 (fun k => St c k 14) ∗ xPt m ρ c ∗ wPt m ρ c ∗ ∃ W, owes (c : Thread nD τ) (finO c) W)
            -∗ wp frame (wpE (defs₀ (F := F)) 𝒱₀ (c : Thread nD τ) none) Set.univ rest Q)
          -∗ wp frame (wpE (defs₀ (F := F)) 𝒱₀ (c : Thread nD τ) none) Set.univ
              (((List.range' s n).flatMap row).foldr (fun e rest => stepThen c e.2 e.1 rest) rest) Q) : Prop)
  | 0, s, h => by
    obtain rfl : s = 14 := by omega
    iintro ⟨-, -, HS, -, Hx, Hw, HO⟩ Hk
    iapply Hk
    isplitl [HS]; · iexact HS
    isplitl [Hx]; · iexact Hx
    isplitl [Hw]; · iexact Hw
    iexact HO
  | n + 1, s, h => by
    have h0 := rest_above c (s := s) (n := n) (by omega) 0 [2, 1, 3] (by decide)
    have h2 := rest_above c (s := s) (n := n) (by omega) 2 [1, 3] (by decide)
    have h1 := rest_above c (s := s) (n := n) (by omega) 1 [3] (by decide)
    have h3 := rest_above c (s := s) (n := n) (by omega) 3 [] (by decide)
    show iprop(records m ρ K ∗ levAts L lv ∗ all4 (fun k => St c k s)
        ∗ ((stepTok c 0 s ∗ stepCred c 0 s) ∗ (stepTok c 2 s ∗ stepCred c 2 s) ∗ (stepTok c 1 s ∗ stepCred c 1 s) ∗ (stepTok c 3 s ∗ stepCred c 3 s)
          ∗ resL c ((List.range' (s + 1) n).flatMap row)) ∗ xPt m ρ c ∗ wPt m ρ c
        ∗ ∃ W, owes (c : Thread nD τ) (stepO c (s, 0) (owedL c (([2, 1, 3] : List (Fin 4)).map (fun k => (s, k)) ++ (List.range' (s + 1) n).flatMap row))) W)
      ⊢ iprop(_ -∗ wp frame _ Set.univ (stepThen c 0 s (stepThen c 2 s (stepThen c 1 s (stepThen c 3 s
          (((List.range' (s + 1) n).flatMap row).foldr (fun e rest => stepThen c e.2 e.1 rest) rest))))) Q)
    iintro ⟨#HR, #Hlev, ⟨H0, H1, H2, H3⟩, ⟨⟨Ht0, Hc0⟩, ⟨Ht2, Hc2⟩, ⟨Ht1, Hc1⟩, ⟨Ht3, Hc3⟩, Hres⟩, Hx, Hw, HO⟩ Hk
    iapply (step_spec m ρ K c 0 s (by omega) _ h0) $$ [H0 Ht0 Hc0 Hx Hw HO]
    · isplitr; · iexact HR
      isplitr; · iexact Hlev
      isplitl [H0]; · iexact H0
      isplitl [Ht0]; · iexact Ht0
      isplitl [Hc0]; · iexact Hc0
      isplitl [Hx]; · iexact Hx
      isplitl [Hw]; · iexact Hw
      iexact HO
    iintro ⟨H0, Hx, Hw, HO⟩
    iapply (step_spec m ρ K c 2 s (by omega) _ h2) $$ [H2 Ht2 Hc2 Hx Hw HO]
    · isplitr; · iexact HR
      isplitr; · iexact Hlev
      isplitl [H2]; · iexact H2
      isplitl [Ht2]; · iexact Ht2
      isplitl [Hc2]; · iexact Hc2
      isplitl [Hx]; · iexact Hx
      isplitl [Hw]; · iexact Hw
      iexact HO
    iintro ⟨H2, Hx, Hw, HO⟩
    iapply (step_spec m ρ K c 1 s (by omega) _ h1) $$ [H1 Ht1 Hc1 Hx Hw HO]
    · isplitr; · iexact HR
      isplitr; · iexact Hlev
      isplitl [H1]; · iexact H1
      isplitl [Ht1]; · iexact Ht1
      isplitl [Hc1]; · iexact Hc1
      isplitl [Hx]; · iexact Hx
      isplitl [Hw]; · iexact Hw
      iexact HO
    iintro ⟨H1, Hx, Hw, HO⟩
    iapply (step_spec m ρ K c 3 s (by omega) _ h3) $$ [H3 Ht3 Hc3 Hx Hw HO]
    · isplitr; · iexact HR
      isplitr; · iexact Hlev
      isplitl [H3]; · iexact H3
      isplitl [Ht3]; · iexact Ht3
      isplitl [Hc3]; · iexact Hc3
      isplitl [Hx]; · iexact Hx
      isplitl [Hw]; · iexact Hw
      iexact HO
    iintro ⟨H3, Hx, Hw, HO⟩
    iapply (rows_spec K c rest Q n (s + 1) (by omega)) $$ [H0 H1 H2 H3 Hres Hx Hw HO]
    · isplitr; · iexact HR
      isplitr; · iexact Hlev
      isplitl [H0 H1 H2 H3]
      · isplitl [H0]; · iexact H0
        isplitl [H1]; · iexact H1
        isplitl [H2]; · iexact H2
        iexact H3
      isplitl [Hres]; · iexact Hres
      isplitl [Hx]; · iexact Hx
      isplitl [Hw]; · iexact Hw
      iexact HO
    iexact Hk

/-! ## The last step -/

/-- The scale, as read. -/
def scl (c : Dev nD) : F .f32 :=
  Scalar.mulf
    (((Memref.whole cc0_stg2_0).access (Rect.unit (s := S1) ![0] S1.size inb_S1_S1_0)).read (Elt F) (sxstg m ρ c)
      (Shape.Idx.first (s := S1) (numel1_S1.symm ▸ Nat.one_pos)))
    (((Memref.whole cc0_stg3_0).access (Rect.unit (s := S1) ![0] S1.size inb_S1_S1_0)).read (Elt F) (swstg m ρ c)
      (Shape.Idx.first (s := S1) (numel1_S1.symm ▸ Nat.one_pos)))

/-- The columns of stream `k` of device `c`'s result. -/
def outK (c : Dev nD) (k : Fin 4) : FVec F S256x2048 .f32 :=
  payLast (scl m ρ c) (acc m ρ k 14 (upDev k c)) (xb m ρ c k 15) (wb m ρ c k)

/-- Device `c`'s result, column block by column block. -/
def outAt (c : Dev nD) : (cc0_stg4_0 : Ref sig .tc).ty.Contents (Elt F) := fun i =>
  outK m ρ c ⟨(i 1).val / 2048, by have : (i 1).val < 8192 := (i 1).isLt; omega⟩
    (ix2 (n0 := 256) (n1 := 2048) ⟨(i 0).val, (i 0).isLt⟩ ⟨(i 1).val % 2048, Nat.mod_lt _ (by decide)⟩)

/-- The result buffer with the columns of stream `k` written. -/
def wrt (c : Dev nD) (k : Fin 4) (f : (cc0_stg4_0 : Ref sig .tc).ty.Contents (Elt F)) : (cc0_stg4_0 : Ref sig .tc).ty.Contents (Elt F) :=
  ((Memref.whole cc0_stg4_0).access (colR k)).write (Elt F) f (outK m ρ c k) Finset.univ

/-- Stream `k`'s columns begin at column `2048 k`. -/
theorem col_eq (k : Fin 4) : col k = 2048 * k.val := by fin_cases k <;> rfl

/-- Writing stream `k`'s columns changes those of the result and no others. -/
theorem wrt_apply (c : Dev nD) (k : Fin 4) (f) (i : (cc0_stg4_0 : Ref sig .tc).ty.Idx) :
    wrt m ρ c k f i = if (i 1).val / 2048 = k.val then outAt m ρ c i else f i := by
  have h1 : (i 1).val < 8192 := (i 1).isLt
  have h0 : (i 0).val < 256 := (i 0).isLt
  unfold wrt
  split
  · rename_i h
    have hi : ((Memref.whole cc0_stg4_0).access (colR k)).emb (ix2 (n0 := 256) (n1 := 2048) ⟨(i 0).val, h0⟩ ⟨(i 1).val % 2048, Nat.mod_lt _ (by decide)⟩) = i := by
      funext a
      refine Fin.ext ?_
      show ((colR k).emb _ a).val = _
      rw [Rect.emb_apply]
      fin_cases a
      · show 0 + 1 * (i 0).val = (i 0).val; omega
      · show col k + 1 * ((i 1).val % 2048) = (i 1).val
        rw [col_eq]; omega
    have hk : (⟨(i 1).val / 2048, by omega⟩ : Fin 4) = k := Fin.ext h
    conv_lhs => rw [← hi]
    rw [View.write_emb_of_mem _ _ (Finset.mem_univ _)]
    unfold outAt
    rw [hk]; rfl
  · rename_i h
    refine View.write_of_not_mem _ _ _ ?_
    intro hm
    apply h
    have hm' : i ∈ (colR k).set := by
      have h2 : ((Memref.whole cc0_stg4_0).access (colR k)).setOn Finset.univ = (colR k).set := by
        rw [View.setOn_univ]; exact View.set_slice_whole _ _
      rw [← h2]; exact hm
    rw [Rect.mem_set_unit] at hm'
    have := hm' 1
    change col k ≤ (i 1).val ∧ (i 1).val < col k + 2048 at this
    rw [col_eq] at this; omega

/-- The four writes make the result. -/
theorem wrt_all (c : Dev nD) (f) : wrt m ρ c 3 (wrt m ρ c 1 (wrt m ρ c 2 (wrt m ρ c 0 f))) = outAt m ρ c := by
  funext i
  have h1 : (i 1).val < 8192 := (i 1).isLt
  rw [wrt_apply, wrt_apply, wrt_apply, wrt_apply]
  split; · rfl
  split; · rfl
  split; · rfl
  split; · rfl
  rename_i a b d e
  exfalso
  change ¬ _ = 3 at a; change ¬ _ = 1 at b; change ¬ _ = 2 at d; change ¬ _ = 0 at e
  omega

/-- What stream `k` holds at the end. -/
def End (c : Dev nD) (k : Fin 4) : sProp 𝕄 :=
  iprop((atPos ER (cell c (CK.snd k 1)) 8 ∅ 0 ∗ atPos ER (cell c (CK.snd k 0)) 7 ∅ 0
    ∗ atPos ER (cell c (CK.rcv k 0)) 8 ∅ 0 ∗ atPos ER (cell c (CK.rcv k 1)) 7 ∅ 0
    ∗ atPos ER (cell c (CK.cr k)) 14 ∅ 0) ∗ slotE c k 0 ∗ slotE c k 1)

/-- The last step of stream `k`. -/
theorem last_spec (K : Dev nD × CK → ℕ) (c : Dev nD) (k : Fin 4) (f : (cc0_stg4_0 : Ref sig .tc).ty.Contents (Elt F)) (rest : KProg F) (Q : PUnit → sProp 𝕄) :
    iprop(records m ρ K ∗ levAts L lv ∗ St c k 14 ∗ xPt m ρ c ∗ wPt m ρ c ∗ (((c : Thread nD τ).loc cc0_stg4_0) ↦{fullShare} f)
        ∗ ∃ W, owes (c : Thread nD τ) (finO c) W)
      ⊢ iprop(((End c k ∗ xPt m ρ c ∗ wPt m ρ c ∗ (((c : Thread nD τ).loc cc0_stg4_0) ↦{fullShare} (wrt m ρ c k f)) ∗ ∃ W, owes (c : Thread nD τ) (finO c) W)
            -∗ wp frame (wpE (defs₀ (F := F)) 𝒱₀ (c : Thread nD τ) none) Set.univ rest Q)
          -∗ wp frame (wpE (defs₀ (F := F)) 𝒱₀ (c : Thread nD τ) none) Set.univ (waitsThen k 0 1 (lastThen c k (scl m ρ c) rest)) Q) := by
  have hp : pos k ≤ 3 := by fin_cases k <;> decide
  unfold St
  iintro ⟨#HR, #Hlev, ⟨HaS, HaS', HaV, HaV', HaC, -, -, HcS, HcV⟩, Hx, Hw, Hout, HO⟩ Hk
  iapply (waits_spec m ρ K c k 14 (by omega) (finO c) (finO_above c (by omega))) $$ [HaS HaV HcS HcV HO]
  · isplitr; · iexact HR
    isplitr; · iexact Hlev
    isplitl [HaS]; · iexact HaS
    isplitl [HaV]; · iexact HaV
    isplitl [HcS]; · iexact HcS
    isplitl [HcV]; · iexact HcV
    iexact HO
  iintro ⟨HaS, HaV, -, -, Hfree, Hslot, -, HO⟩
  unfold lastThen
  iapply (load_slot c k (slotOf 14) _) $$ Hslot; iintro Hslot
  iapply (load_x m ρ c k 15) $$ Hx; iintro Hx
  iapply (load_w m ρ c k) $$ Hw; iintro Hw
  iapply (wp_load 𝒱₀ (c : Thread nD τ) none Set.univ (m := Memref.whole cc0_stg4_0) (Finset.subset_univ _)) $$ Hout; iintro Hout
  iapply (wp_store 𝒱₀ (c : Thread nD τ) none Set.univ (m := Memref.whole cc0_stg4_0) (r := colR k) (Mk := Finset.univ) (Finset.subset_univ _)) $$ Hout; iintro Hout
  iapply Hk
  unfold End
  isplitr [Hx Hw Hout HO]
  · isplitr [Hslot Hfree]
    · isplitl [HaS]; · iexact HaS
      isplitl [HaS']; · iexact HaS'
      isplitl [HaV]; · iexact HaV
      isplitl [HaV']; · iexact HaV'
      iexact HaC
    isplitl [Hslot]
    · unfold slotE; iexists _; iexact Hslot
    iexact Hfree
  isplitl [Hx]; · iexact Hx
  isplitl [Hw]; · iexact Hw
  isplitl [Hout]; · iexact Hout
  iexact HO

/-! ## The prologue -/

/-- The first product of stream `k`. -/
theorem init_spec (c : Dev nD) (k : Fin 4) (rest : KProg F) (Q : PUnit → sProp 𝕄) :
    iprop(slotE c k 1 ∗ xPt m ρ c ∗ wPt m ρ c)
      ⊢ iprop(((slotP c k 1 (acc m ρ k 0 c) ∗ xPt m ρ c ∗ wPt m ρ c)
            -∗ wp frame (wpE (defs₀ (F := F)) 𝒱₀ (c : Thread nD τ) none) Set.univ rest Q)
          -∗ wp frame (wpE (defs₀ (F := F)) 𝒱₀ (c : Thread nD τ) none) Set.univ (initThen c k rest) Q) := by
  unfold slotE initThen
  iintro ⟨⟨%v, Hslot⟩, Hx, Hw⟩ Hk
  iapply (load_x m ρ c k 0) $$ Hx; iintro Hx
  iapply (load_w m ρ c k) $$ Hw; iintro Hw
  iapply (load_slot c k 1 _) $$ Hslot; iintro Hslot
  iapply (store_slot c k 1 _ _) $$ Hslot; iintro Hslot
  iapply Hk
  isplitl [Hslot]; · iexact Hslot
  isplitl [Hx]; · iexact Hx
  iexact Hw

/-- What stream `k` starts from besides its slots: its positions, and the tokens and the expected credit of its first copy. -/
def start1 (c : Dev nD) (k : Fin 4) : sProp 𝕄 :=
  iprop((atPos ER (cell c (CK.snd k 0)) 0 ∅ 0 ∗ atPos ER (cell c (CK.snd k 1)) 0 ∅ 0
      ∗ atPos ER (cell c (CK.rcv k 0)) 0 ∅ 0 ∗ atPos ER (cell c (CK.rcv k 1)) 0 ∅ 0 ∗ atPos ER (cell c (CK.cr k)) 0 ∅ 0)
    ∗ dutyTok ER (cell c (CK.snd k 1)) 0 false ∗ dutyTok ER (cell (dnDev k c) (CK.rcv k 0)) 0 false
    ∗ cred (tallyAt (cell c (CK.rcv k 0)) 0 (N k)))

/-- The first copy of stream `k`. -/
theorem first_spec (K : Dev nD × CK → ℕ) (c : Dev nD) (k : Fin 4) (O : CellTallies nD τ sig ℕ) (rest : KProg F) (Q : PUnit → sProp 𝕄) :
    iprop(records m ρ K ∗ slotP c k 1 (acc m ρ k 0 c) ∗ slotE (dnDev k c) k 0 ∗ start1 c k ∗ ∃ W, owes (c : Thread nD τ) (copyO c k O) W)
      ⊢ iprop(((St c k 0 ∗ ∃ W, owes (c : Thread nD τ) O W)
            -∗ wp frame (wpE (defs₀ (F := F)) 𝒱₀ (c : Thread nD τ) none) Set.univ rest Q)
          -∗ wp frame (wpE (defs₀ (F := F)) 𝒱₀ (c : Thread nD τ) none) Set.univ (copyThen c k 1 0 rest) Q) := by
  unfold start1 copyO
  iintro ⟨#HR, Hs, Hd, ⟨⟨HaS0, HaS1, HaV0, HaV1, HaC⟩, HtS, HtV, HcV⟩, ⟨%W, HO⟩⟩ Hk
  ihave #Hr1 := (reached_of m ρ K c (CK.snd k 1)) $$ HR
  ihave #Hr0 := (reached_of m ρ K c (CK.snd k 0)) $$ HR
  ihave #Hr2 := (reached_of m ρ K (dnDev k c) (CK.rcv k 0)) $$ HR
  ihave #Hr3 := (reached_of m ρ K c (CK.rcv k 1)) $$ HR
  ihave #Hrc := (reached_of m ρ K c (CK.cr k)) $$ HR
  iapply (copy_spec m ρ K c k 0 (by decide) O W rest Q) $$ [Hs Hd HO HtS HtV]
  · isplitr; · iexact HR
    isplitl [Hs]; · iexact Hs
    isplitl [Hd]; · iexact Hd
    isplitr; · iexact Hrc
    isplitl [HO]; · iexact HO
    isplitl [HtS]; · iexact HtS
    isplitr; · iexact Hr1
    isplitl [HtV]; · iexact HtV
    iexact Hr2
  iintro ⟨HcS, HO⟩
  iapply Hk
  isplitr [HO]
  · unfold St
    isplitl [HaS1]; · iexact HaS1
    isplitl [HaS0]; · iexact HaS0
    isplitl [HaV0]; · iexact HaV0
    isplitl [HaV1]; · iexact HaV1
    isplitl [HaC]; · iexact HaC
    isplitr; · iexact Hr0
    isplitr; · iexact Hr3
    isplitl [HcS]; · iexact HcS
    iexact HcV
  iexists W; iexact HO

/-- What the two handshakes start from. -/
def startB (c : Dev nD) : sProp 𝕄 :=
  iprop((atPos ER (cell c CK.bar) 0 ∅ 0 ∗ dutyTok ER (cell (lft c) CK.bar) 0 false ∗ dutyTok ER (cell (rgt c) CK.bar) 0 true ∗ cred (tallyAt (cell c CK.bar) 0 2))
    ∗ atPos ER (cell c CK.fin) 0 ∅ 0 ∗ dutyTok ER (cell (lft c) CK.fin) 0 false ∗ dutyTok ER (cell (rgt c) CK.fin) 0 true ∗ cred (tallyAt (cell c CK.fin) 0 2))

/-- What a device's body starts from: that, the streams' starts, and what the inner steps spend. -/
def ghost (c : Dev nD) : sProp 𝕄 :=
  iprop(startB c ∗ all4 (fun k => start1 c k) ∗ resL c steps)

/-- The scale staging. -/
def sPt (c : Dev nD) : sProp 𝕄 :=
  iprop((((c : Thread nD τ).loc cc0_stg2_0) ↦{fullShare} sxstg m ρ c) ∗ (((c : Thread nD τ).loc cc0_stg3_0) ↦{fullShare} swstg m ρ c))

/-- Every counter of the device's cells at zero. -/
def closedAll (c : Dev nD) : sProp 𝕄 :=
  iprop(semVal (cell c CK.bar) 0 ∗ semVal (cell c CK.fin) 0
    ∗ all4 (fun k => iprop(semVal (cell c (CK.snd k 1)) 0 ∗ semVal (cell c (CK.snd k 0)) 0 ∗ semVal (cell c (CK.rcv k 0)) 0 ∗ semVal (cell c (CK.rcv k 1)) 0
      ∗ semVal (cell c (CK.cr k)) 0)))

/-- A cell at the end of its rounds closes. -/
theorem close1 (K : Dev nD × CK → ℕ) (c : Dev nD) (ck : CK) (R : ℕ)
    (hR : (match ck with | CK.bar => 1 | CK.fin => 1 | CK.cr _ => 14 | CK.snd _ p => 7 + p.val | CK.rcv _ p => 8 - p.val) ≤ R) :
    iprop(records m ρ K ∗ atPos ER (cell c ck) R ∅ 0) ⊢ |={Set.univ}=> (semVal (cell c ck) 0 : sProp 𝕄) := by
  iintro ⟨#HR, Ha⟩
  ihave #HI := (inv_of m ρ K c ck) $$ HR
  iapply (Rounds.cell_close ER (Rd m ρ) (Set.mem_univ (K (c, ck))) (fun h => h) (R := R) (dut_end m ρ ck R hR c))
  isplitr; · iexact HI
  iexact Ha

/-- A stream's five cells close. -/
theorem close_stream (K : Dev nD × CK → ℕ) (c : Dev nD) (k : Fin 4) :
    iprop(records m ρ K ∗ (atPos ER (cell c (CK.snd k 1)) 8 ∅ 0 ∗ atPos ER (cell c (CK.snd k 0)) 7 ∅ 0
      ∗ atPos ER (cell c (CK.rcv k 0)) 8 ∅ 0 ∗ atPos ER (cell c (CK.rcv k 1)) 7 ∅ 0 ∗ atPos ER (cell c (CK.cr k)) 14 ∅ 0))
    ⊢ |={Set.univ}=> (iprop(semVal (cell c (CK.snd k 1)) 0 ∗ semVal (cell c (CK.snd k 0)) 0 ∗ semVal (cell c (CK.rcv k 0)) 0 ∗ semVal (cell c (CK.rcv k 1)) 0
      ∗ semVal (cell c (CK.cr k)) 0) : sProp 𝕄) := by
  iintro ⟨#HR, H1, H2, H3, H4, H5⟩
  imod (close1 m ρ K c (CK.snd k 1) 8 (Nat.le_refl 8)) $$ [H1] with H1
  · isplitr; · iexact HR
    iexact H1
  imod (close1 m ρ K c (CK.snd k 0) 7 (Nat.le_refl 7)) $$ [H2] with H2
  · isplitr; · iexact HR
    iexact H2
  imod (close1 m ρ K c (CK.rcv k 0) 8 (Nat.le_refl 8)) $$ [H3] with H3
  · isplitr; · iexact HR
    iexact H3
  imod (close1 m ρ K c (CK.rcv k 1) 7 (Nat.le_refl 7)) $$ [H4] with H4
  · isplitr; · iexact HR
    iexact H4
  imod (close1 m ρ K c (CK.cr k) 14 (Nat.le_refl 14)) $$ [H5] with H5
  · isplitr; · iexact HR
    iexact H5
  imodintro
  isplitl [H1]; · iexact H1
  isplitl [H2]; · iexact H2
  isplitl [H3]; · iexact H3
  isplitl [H4]; · iexact H4
  iexact H5

/-- The second handshake, and every cell closed. -/
theorem end_spec (K : Dev nD × CK → ℕ) (c : Dev nD) (Q : PUnit → sProp 𝕄) :
    iprop(records m ρ K ∗ atPos ER (cell c CK.bar) 1 ∅ 0
        ∗ (atPos ER (cell c CK.fin) 0 ∅ 0 ∗ dutyTok ER (cell (lft c) CK.fin) 0 false ∗ dutyTok ER (cell (rgt c) CK.fin) 0 true ∗ cred (tallyAt (cell c CK.fin) 0 2))
        ∗ all4 (fun k => End c k) ∗ ∃ W, owes (c : Thread nD τ) (finO c) W)
      ⊢ iprop(((closedAll c ∗ all4 (fun k => iprop(slotE c k 0 ∗ slotE c k 1)) ∗ ∃ W, owes (c : Thread nD τ) 0 W) -∗ Q ⟨⟩)
          -∗ wp frame (wpE (defs₀ (F := F)) 𝒱₀ (c : Thread nD τ) none) Set.univ (endProg c) Q) := by
  unfold endProg finO End
  iintro ⟨#HR, HaB, ⟨HaF, HtL, HtR, HcF⟩, ⟨⟨E0, S0⟩, ⟨E1, S1⟩, ⟨E2, S2⟩, ⟨E3, S3⟩⟩, ⟨%W, HO⟩⟩ Hk
  ihave #HIl := (inv_of m ρ K (lft c) CK.fin) $$ HR
  ihave #HIr := (inv_of m ρ K (rgt c) CK.fin) $$ HR
  ihave #HIc := (inv_of m ρ K c CK.fin) $$ HR
  ihave #Hrl := (reached_of m ρ K (lft c) CK.fin) $$ HR
  ihave #Hrr := (reached_of m ρ K (rgt c) CK.fin) $$ HR
  iapply (Rounds.wp_signal 𝒱₀ ER (Rd m ρ) (c : Thread nD τ) none (dst := (lft c : Thread nD τ)) (κ := K (lft c, CK.fin))
      (r := 0) (d := false) (k' := 1) (sem := cc0_scoped0.sem) (by show false ∈ (Rd m ρ).duties (cell (lft c) CK.fin) 0; rw [Rd_duties]; exact Finset.mem_univ _)
      (Rd_amount m ρ (lft c) CK.fin 0 false) 0 _ rfl (W := W)) $$ [HO HtL]
  · isplitr; · iexact HIl
    isplitl [HO]; · iexact HO
    isplitl [HtL]; · iexact HtL
    isplitr
    · iapply (Entails.of_eq (show (Rd m ρ).payload ((lft c : Thread nD τ), SemLoc.reg cc0_scoped0.sem) 0 false = iprop(emp) from Rd_payload m ρ (lft c) CK.fin 0 false).symm)
      iempintro
    iexact Hrl
  iintro HO
  iapply (Rounds.wp_signal 𝒱₀ ER (Rd m ρ) (c : Thread nD τ) none (dst := (rgt c : Thread nD τ)) (κ := K (rgt c, CK.fin))
      (r := 0) (d := true) (k' := 1) (sem := cc0_scoped0.sem) (by show true ∈ (Rd m ρ).duties (cell (rgt c) CK.fin) 0; rw [Rd_duties]; exact Finset.mem_univ _)
      (Rd_amount m ρ (rgt c) CK.fin 0 true) 0 0 (by rw [zero_add]) (W := W)) $$ [HO HtR]
  · isplitr; · iexact HIr
    isplitl [HO]; · iexact HO
    isplitl [HtR]; · iexact HtR
    isplitr
    · iapply (Entails.of_eq (show (Rd m ρ).payload ((rgt c : Thread nD τ), SemLoc.reg cc0_scoped0.sem) 0 true = iprop(emp) from Rd_payload m ρ (rgt c) CK.fin 0 true).symm)
      iempintro
    iexact Hrr
  iintro HO
  iapply (Rounds.wp_wait_rest_token 𝒱₀ ER (Rd m ρ) (c : Thread nD τ) none (κ := K (c, CK.fin)) (k' := 2)
      (sm := csem CK.fin) (wpE_semWait_eq 𝒱₀ (c : Thread nD τ) none Set.univ) (Set.mem_univ _) 0 (O := 0) (R := 0) (m := 0) (T := ∅)
      (by rw [Nat.zero_add]; exact (expect_two m ρ (c := c) (ck := CK.fin) rfl rfl).symm)) $$ [HcF HO HaF]
  · isplitr; · iexact HIc
    isplitl [HcF]; · iexact HcF
    isplitl [HO]; · iexact HO
    isplitr; · rw [MayWait_zero]; iempintro
    iexact HaF
  iintro ⟨HO, HaF, -, -⟩
  rw [wp_ret]
  imod (close1 m ρ K c CK.bar 1 (by decide)) $$ [HaB] with HaB
  · isplitr; · iexact HR
    iexact HaB
  imod (close1 m ρ K c CK.fin 1 (by decide)) $$ [HaF] with HaF
  · isplitr; · iexact HR
    iexact HaF
  imod (close_stream m ρ K c 0) $$ [E0] with E0
  · isplitr; · iexact HR
    iexact E0
  imod (close_stream m ρ K c 1) $$ [E1] with E1
  · isplitr; · iexact HR
    iexact E1
  imod (close_stream m ρ K c 2) $$ [E2] with E2
  · isplitr; · iexact HR
    iexact E2
  imod (close_stream m ρ K c 3) $$ [E3] with E3
  · isplitr; · iexact HR
    iexact E3
  imodintro
  iapply Hk
  unfold closedAll
  isplitr [S0 S1 S2 S3 HO]
  · isplitl [HaB]; · iexact HaB
    isplitl [HaF]; · iexact HaF
    isplitl [E0]; · iexact E0
    isplitl [E1]; · iexact E1
    isplitl [E2]; · iexact E2
    iexact E3
  isplitr [HO]
  · isplitl [S0]; · iexact S0
    isplitl [S1]; · iexact S1
    isplitl [S2]; · iexact S2
    iexact S3
  iexists _; iexact HO

/-- The first handshake: the slots the neighbours write first go to them, and theirs come. -/
theorem shake_spec (K : Dev nD × CK → ℕ) (c : Dev nD) (rest : KProg F) (Q : PUnit → sProp 𝕄) :
    iprop(records m ρ K ∗ levAts L lv
        ∗ (atPos ER (cell c CK.bar) 0 ∅ 0 ∗ dutyTok ER (cell (lft c) CK.bar) 0 false ∗ dutyTok ER (cell (rgt c) CK.bar) 0 true ∗ cred (tallyAt (cell c CK.bar) 0 2))
        ∗ all4 (fun k => slotE c k 0) ∗ ∃ W, owes (c : Thread nD τ) (O₀ c) W)
      ⊢ iprop(((atPos ER (cell c CK.bar) 1 ∅ 0 ∗ all4 (fun k => slotE (dnDev k c) k 0) ∗ ∃ W, owes (c : Thread nD τ) (midO c [0, 1, 2, 3]) W)
            -∗ wp frame (wpE (defs₀ (F := F)) 𝒱₀ (c : Thread nD τ) none) Set.univ rest Q)
          -∗ wp frame (wpE (defs₀ (F := F)) 𝒱₀ (c : Thread nD τ) none) Set.univ
            (.op (.semSignal (Dev.tc (⟨k0_dev1 c, k0_dev1_lt c⟩ : Dev nD)) barS (BitVec.toInt 1#32)) fun _ =>
             .op (.semSignal (Dev.tc (⟨k0_dev2 c, k0_dev2_lt c⟩ : Dev nD)) barS (BitVec.toInt 1#32)) fun _ =>
             .op (.semWait barS (BitVec.toInt 2#32)) fun _ => rest) Q) := by
  unfold O₀
  iintro ⟨#HR, #Hlev, ⟨HaB, HtL, HtR, HcB⟩, ⟨S0, S1, S2, S3⟩, ⟨%W, HO⟩⟩ Hk
  ihave #HIl := (inv_of m ρ K (lft c) CK.bar) $$ HR
  ihave #HIr := (inv_of m ρ K (rgt c) CK.bar) $$ HR
  ihave #HIc := (inv_of m ρ K c CK.bar) $$ HR
  ihave #Hrl := (reached_of m ρ K (lft c) CK.bar) $$ HR
  ihave #Hrr := (reached_of m ρ K (rgt c) CK.bar) $$ HR
  iapply (Rounds.wp_signal 𝒱₀ ER (Rd m ρ) (c : Thread nD τ) none (dst := (lft c : Thread nD τ)) (κ := K (lft c, CK.bar))
      (r := 0) (d := false) (k' := 1) (sem := barS) (by show false ∈ (Rd m ρ).duties (cell (lft c) CK.bar) 0; rw [Rd_duties]; exact Finset.mem_univ _)
      (Rd_amount m ρ (lft c) CK.bar 0 false) 0 _ rfl (W := W)) $$ [HO HtL S0 S1]
  · isplitr; · iexact HIl
    isplitl [HO]; · iexact HO
    isplitl [HtL]; · iexact HtL
    isplitl [S0 S1]
    · iapply (Entails.of_eq (show (Rd m ρ).payload ((lft c : Thread nD τ), SemLoc.reg barS) 0 false = iprop(slotE c 0 0 ∗ slotE c 1 0) from
        (Rd_payload m ρ (lft c) CK.bar 0 false).trans (by
          show iprop(slotE (rgt (lft c)) 0 0 ∗ slotE (rgt (lft c)) 1 0) = _
          rw [rgt_lft])).symm)
      isplitl [S0]; · iexact S0
      iexact S1
    iexact Hrl
  iintro HO
  iapply (Rounds.wp_signal 𝒱₀ ER (Rd m ρ) (c : Thread nD τ) none (dst := (rgt c : Thread nD τ)) (κ := K (rgt c, CK.bar))
      (r := 0) (d := true) (k' := 1) (sem := barS) (by show true ∈ (Rd m ρ).duties (cell (rgt c) CK.bar) 0; rw [Rd_duties]; exact Finset.mem_univ _)
      (Rd_amount m ρ (rgt c) CK.bar 0 true) 0 (midO c [0, 1, 2, 3]) rfl (W := W)) $$ [HO HtR S2 S3]
  · isplitr; · iexact HIr
    isplitl [HO]; · iexact HO
    isplitl [HtR]; · iexact HtR
    isplitl [S2 S3]
    · iapply (Entails.of_eq (show (Rd m ρ).payload ((rgt c : Thread nD τ), SemLoc.reg barS) 0 true = iprop(slotE c 2 0 ∗ slotE c 3 0) from
        (Rd_payload m ρ (rgt c) CK.bar 0 true).trans (by
          show iprop(slotE (lft (rgt c)) 2 0 ∗ slotE (lft (rgt c)) 3 0) = _
          rw [lft_rgt])).symm)
      isplitl [S2]; · iexact S2
      iexact S3
    iexact Hrr
  iintro HO
  iapply (Rounds.wp_wait_rest_token 𝒱₀ ER (Rd m ρ) (c : Thread nD τ) none (κ := K (c, CK.bar)) (k' := 2)
      (sm := csem CK.bar) (wpE_semWait_eq 𝒱₀ (c : Thread nD τ) none Set.univ) (Set.mem_univ _) 0 (R := 0) (m := 0) (T := ∅)
      (by rw [Nat.zero_add]; exact (expect_two m ρ (c := c) (ck := CK.bar) rfl rfl).symm)) $$ [HcB HO HaB]
  · isplitr; · iexact HIc
    isplitl [HcB]; · iexact HcB
    isplitl [HO]; · iexact HO
    isplitr; · iapply (mayWait (c := c) (ck := CK.bar) (by decide) (midO_above c (by decide) _)); iexact Hlev
    iexact HaB
  iintro ⟨HO, HaB, -, Hp⟩
  ihave Hp := (Entails.of_eq ((rest_two m ρ (c := c) (ck := CK.bar) rfl).trans (show _ =
    iprop((slotE (rgt c) 0 0 ∗ slotE (rgt c) 1 0) ∗ slotE (lft c) 2 0 ∗ slotE (lft c) 3 0) from rfl))) $$ Hp
  icases Hp with ⟨⟨S0, S1⟩, S2, S3⟩
  iapply Hk
  isplitl [HaB]; · iexact HaB
  isplitr [HO]
  · isplitl [S0]; · iexact S0
    isplitl [S1]; · iexact S1
    isplitl [S2]; · iexact S2
    iexact S3
  iexists _; iexact HO

/-- A scale is read. -/
theorem smem_spec (c : Dev nD) (b : Memref sig .tc .smem S1 .f32) (f : Buf (Elt F) (b.view.loc (c : Thread nD τ))) {k : Elt F .f32 → KProg F} {Q : PUnit → sProp 𝕄} :
    ((b.view.loc (c : Thread nD τ) ↦{fullShare} f) : sProp 𝕄)
      ⊢ iprop(((b.view.loc (c : Thread nD τ) ↦{fullShare} f)
            -∗ wp frame (wpE (defs₀ (F := F)) 𝒱₀ (c : Thread nD τ) none) Set.univ
              (k ((b.access (Rect.unit (s := S1) ![0] S1.size inb_S1_S1_0)).read (Elt F) f (Shape.Idx.first (s := S1) (numel1_S1.symm ▸ Nat.one_pos)))) Q)
          -∗ wp frame (wpE (defs₀ (F := F)) 𝒱₀ (c : Thread nD τ) none) Set.univ
            ((smemLoad b (Rect.unit (s := S1) ![0] S1.size inb_S1_S1_0) numel1_S1 rfl).bind k) Q) :=
  by
  have e : (smemLoad b (Rect.unit (s := S1) ![0] S1.size inb_S1_S1_0) numel1_S1 rfl).bind k
      = (smemLoadElt b (Rect.unit (s := S1) ![0] S1.size inb_S1_S1_0) (View.loads_smem_one rfl numel1_S1)
          (Shape.Idx.first (s := S1) (numel1_S1.symm ▸ Nat.one_pos)) k : KProg F) := rfl
  rw [e]
  exact wp_smemLoadElt 𝒱₀ (c : Thread nD τ) none Set.univ (m := b) (r := Rect.unit (s := S1) ![0] S1.size inb_S1_S1_0)
    (x := Shape.Idx.first (s := S1) (numel1_S1.symm ▸ Nat.one_pos)) (k := k) (S := Finset.univ) (Finset.subset_univ _)

/-- The inner steps are fourteen rows. -/
theorem steps_eq : steps = (List.range' 0 14).flatMap row := by
  unfold steps; rw [List.range_eq_range']

/-- The whole body. -/
theorem body_spec (K : Dev nD × CK → ℕ) (c : Dev nD) (f : (cc0_stg4_0 : Ref sig .tc).ty.Contents (Elt F)) (Q : PUnit → sProp 𝕄) :
    iprop(records m ρ K ∗ levAts L lv ∗ ghost c ∗ all4 (fun k => iprop(slotE c k 0 ∗ slotE c k 1)) ∗ xPt m ρ c ∗ wPt m ρ c ∗ sPt m ρ c
        ∗ (((c : Thread nD τ).loc cc0_stg4_0) ↦{fullShare} f) ∗ ∃ W, owes (c : Thread nD τ) (O₀ c) W)
      ⊢ iprop(((closedAll c ∗ all4 (fun k => iprop(slotE c k 0 ∗ slotE c k 1)) ∗ xPt m ρ c ∗ wPt m ρ c ∗ sPt m ρ c
            ∗ (((c : Thread nD τ).loc cc0_stg4_0) ↦{fullShare} outAt m ρ c) ∗ ∃ W, owes (c : Thread nD τ) 0 W) -∗ Q ⟨⟩)
          -∗ wp frame (wpE (defs₀ (F := F)) 𝒱₀ (c : Thread nD τ) none) Set.univ (bodyProg c) Q) := by
  unfold ghost startB sPt
  iintro ⟨#HR, #Hlev, ⟨⟨HB, HF⟩, ⟨T0, T1, T2, T3⟩, Hres⟩, ⟨⟨A0, B0⟩, ⟨A1, B1⟩, ⟨A2, B2⟩, ⟨A3, B3⟩⟩, Hx, Hw, ⟨Hsx, Hsw⟩, Hout, HO⟩ Hk
  unfold bodyProg
  simp only [List.foldr_cons, List.foldr_nil]
  iapply (init_spec m ρ c 0) $$ [B0 Hx Hw]
  · isplitl [B0]; · iexact B0
    isplitl [Hx]; · iexact Hx
    iexact Hw
  iintro ⟨B0, Hx, Hw⟩
  iapply (init_spec m ρ c 1) $$ [B1 Hx Hw]
  · isplitl [B1]; · iexact B1
    isplitl [Hx]; · iexact Hx
    iexact Hw
  iintro ⟨B1, Hx, Hw⟩
  iapply (init_spec m ρ c 2) $$ [B2 Hx Hw]
  · isplitl [B2]; · iexact B2
    isplitl [Hx]; · iexact Hx
    iexact Hw
  iintro ⟨B2, Hx, Hw⟩
  iapply (init_spec m ρ c 3) $$ [B3 Hx Hw]
  · isplitl [B3]; · iexact B3
    isplitl [Hx]; · iexact Hx
    iexact Hw
  iintro ⟨B3, Hx, Hw⟩
  iapply (shake_spec m ρ K c) $$ [HB A0 A1 A2 A3 HO]
  · isplitr; · iexact HR
    isplitr; · iexact Hlev
    isplitl [HB]; · iexact HB
    isplitr [HO]
    · isplitl [A0]; · iexact A0
      isplitl [A1]; · iexact A1
      isplitl [A2]; · iexact A2
      iexact A3
    iexact HO
  iintro ⟨HaB, ⟨A0, A1, A2, A3⟩, HO⟩
  iapply (first_spec m ρ K c 0 (midO c [1, 2, 3])) $$ [B0 A0 T0 HO]
  · isplitr; · iexact HR
    isplitl [B0]; · iexact B0
    isplitl [A0]; · iexact A0
    isplitl [T0]; · iexact T0
    iexact HO
  iintro ⟨T0, HO⟩
  iapply (first_spec m ρ K c 1 (midO c [2, 3])) $$ [B1 A1 T1 HO]
  · isplitr; · iexact HR
    isplitl [B1]; · iexact B1
    isplitl [A1]; · iexact A1
    isplitl [T1]; · iexact T1
    iexact HO
  iintro ⟨T1, HO⟩
  iapply (first_spec m ρ K c 2 (midO c [3])) $$ [B2 A2 T2 HO]
  · isplitr; · iexact HR
    isplitl [B2]; · iexact B2
    isplitl [A2]; · iexact A2
    isplitl [T2]; · iexact T2
    iexact HO
  iintro ⟨T2, HO⟩
  iapply (first_spec m ρ K c 3 (midO c [])) $$ [B3 A3 T3 HO]
  · isplitr; · iexact HR
    isplitl [B3]; · iexact B3
    isplitl [A3]; · iexact A3
    isplitl [T3]; · iexact T3
    iexact HO
  iintro ⟨T3, HO⟩
  -- the scales
  iapply (smem_spec c (Memref.whole cc0_stg2_0) _) $$ Hsx; iintro Hsx
  iapply (smem_spec c (Memref.whole cc0_stg3_0) _) $$ Hsw; iintro Hsw
  -- the inner steps
  unfold tailProg midO
  rw [List.foldr_nil, steps_eq]
  rw [show Scalar.mulf _ _ = scl m ρ c from rfl]
  generalize hfin : order.foldr (fun k rest => waitsThen k 0 1 (lastThen c k (scl m ρ c) rest)) (endProg c) = fin
  iapply (rows_spec m ρ K c fin Q 14 0 rfl) $$ [T0 T1 T2 T3 Hres Hx Hw HO]
  · isplitr; · iexact HR
    isplitr; · iexact Hlev
    isplitl [T0 T1 T2 T3]
    · isplitl [T0]; · iexact T0
      isplitl [T1]; · iexact T1
      isplitl [T2]; · iexact T2
      iexact T3
    isplitl [Hres]; · iexact Hres
    isplitl [Hx]; · iexact Hx
    isplitl [Hw]; · iexact Hw
    iexact HO
  iintro ⟨⟨T0, T1, T2, T3⟩, Hx, Hw, HO⟩
  -- the last steps
  subst hfin
  unfold order
  simp only [List.foldr_cons, List.foldr_nil]
  iapply (last_spec m ρ K c 0) $$ [T0 Hx Hw Hout HO]
  · isplitr; · iexact HR
    isplitr; · iexact Hlev
    isplitl [T0]; · iexact T0
    isplitl [Hx]; · iexact Hx
    isplitl [Hw]; · iexact Hw
    isplitl [Hout]; · iexact Hout
    iexact HO
  iintro ⟨T0, Hx, Hw, Hout, HO⟩
  iapply (last_spec m ρ K c 2) $$ [T2 Hx Hw Hout HO]
  · isplitr; · iexact HR
    isplitr; · iexact Hlev
    isplitl [T2]; · iexact T2
    isplitl [Hx]; · iexact Hx
    isplitl [Hw]; · iexact Hw
    isplitl [Hout]; · iexact Hout
    iexact HO
  iintro ⟨T2, Hx, Hw, Hout, HO⟩
  iapply (last_spec m ρ K c 1) $$ [T1 Hx Hw Hout HO]
  · isplitr; · iexact HR
    isplitr; · iexact Hlev
    isplitl [T1]; · iexact T1
    isplitl [Hx]; · iexact Hx
    isplitl [Hw]; · iexact Hw
    isplitl [Hout]; · iexact Hout
    iexact HO
  iintro ⟨T1, Hx, Hw, Hout, HO⟩
  iapply (last_spec m ρ K c 3) $$ [T3 Hx Hw Hout HO]
  · isplitr; · iexact HR
    isplitr; · iexact Hlev
    isplitl [T3]; · iexact T3
    isplitl [Hx]; · iexact Hx
    isplitl [Hw]; · iexact Hw
    isplitl [Hout]; · iexact Hout
    iexact HO
  iintro ⟨T3, Hx, Hw, Hout, HO⟩
  rw [wrt_all]
  iapply (end_spec m ρ K c Q) $$ [HaB HF T0 T1 T2 T3 HO]
  · isplitr; · iexact HR
    isplitl [HaB]; · iexact HaB
    isplitl [HF]; · iexact HF
    isplitr [HO]
    · isplitl [T0]; · iexact T0
      isplitl [T1]; · iexact T1
      isplitl [T2]; · iexact T2
      iexact T3
    iexact HO
  iintro ⟨Hcl, HS, HO⟩
  iapply Hk
  isplitl [Hcl]; · iexact Hcl
  isplitl [HS]; · iexact HS
  isplitl [Hx]; · iexact Hx
  isplitl [Hw]; · iexact Hw
  isplitl [Hsx Hsw]
  · isplitl [Hsx]; · iexact Hsx
    iexact Hsw
  isplitl [Hout]; · iexact Hout
  iexact HO

end Cert.KernelIdeal.K1

end
-- ==== Proof.KILaunch.lean ====
/- The launch of the sixteen devices: what the pipeline stages, the body obligation, the tokens and the
   credits dealt to the devices, and the run of @main. -/
module

public import proofs.«01_k».proof.Proof.KIBody
public import Idealize.ShloMosaic.Lib.Pipeline.CollectiveSegs
public import Idealize.ShloMosaic.Lib.MemrefSat

@[expose] public section

noncomputable section

namespace Cert.KernelIdeal.K1

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## Conjunctions written out -/

/-- Something for every cell of a device. -/
theorem bigSep_CK (Φ : CK → sProp 𝕄) : bigSep Finset.univ Φ
    = iprop(Φ CK.bar ∗ Φ CK.fin
      ∗ Φ (CK.snd 0 0) ∗ Φ (CK.snd 0 1) ∗ Φ (CK.rcv 0 0) ∗ Φ (CK.rcv 0 1) ∗ Φ (CK.cr 0)
      ∗ Φ (CK.snd 1 0) ∗ Φ (CK.snd 1 1) ∗ Φ (CK.rcv 1 0) ∗ Φ (CK.rcv 1 1) ∗ Φ (CK.cr 1)
      ∗ Φ (CK.snd 2 0) ∗ Φ (CK.snd 2 1) ∗ Φ (CK.rcv 2 0) ∗ Φ (CK.rcv 2 1) ∗ Φ (CK.cr 2)
      ∗ Φ (CK.snd 3 0) ∗ Φ (CK.snd 3 1) ∗ Φ (CK.rcv 3 0) ∗ Φ (CK.rcv 3 1) ∗ Φ (CK.cr 3)) :=
  bigSep_univ_eq_bigSepL (([CK.bar, CK.fin] ++ ([0, 1, 2, 3] : List (Fin 4)).flatMap fun k => [CK.snd k 0, CK.snd k 1, CK.rcv k 0, CK.rcv k 1, CK.cr k]) : List CK) (by decide) (by decide) Φ

/-- Something for every semaphore of the kernel's own. -/
theorem bigSep_OK (Φ : OK → sProp 𝕄) : bigSep Finset.univ Φ
    = iprop(Φ (.inl ())
      ∗ Φ (.inr (.inr (.inl (0, 1)))) ∗ Φ (.inr (.inr (.inl (0, 0)))) ∗ Φ (.inr (.inr (.inr (0, 0)))) ∗ Φ (.inr (.inr (.inr (0, 1)))) ∗ Φ (.inr (.inl 0))
      ∗ Φ (.inr (.inr (.inl (1, 1)))) ∗ Φ (.inr (.inr (.inl (1, 0)))) ∗ Φ (.inr (.inr (.inr (1, 0)))) ∗ Φ (.inr (.inr (.inr (1, 1)))) ∗ Φ (.inr (.inl 1))
      ∗ Φ (.inr (.inr (.inl (2, 1)))) ∗ Φ (.inr (.inr (.inl (2, 0)))) ∗ Φ (.inr (.inr (.inr (2, 0)))) ∗ Φ (.inr (.inr (.inr (2, 1)))) ∗ Φ (.inr (.inl 2))
      ∗ Φ (.inr (.inr (.inl (3, 1)))) ∗ Φ (.inr (.inr (.inl (3, 0)))) ∗ Φ (.inr (.inr (.inr (3, 0)))) ∗ Φ (.inr (.inr (.inr (3, 1)))) ∗ Φ (.inr (.inl 3))) :=
  bigSep_univ_eq_bigSepL (([.inl ()] : List OK) ++ ([0, 1, 2, 3] : List (Fin 4)).flatMap fun k =>
      ([.inr (.inr (.inl (k, 1))), .inr (.inr (.inl (k, 0))), .inr (.inr (.inr (k, 0))), .inr (.inr (.inr (k, 1))), .inr (.inl k)] : List OK)) (by decide) (by decide) Φ

/-- What is held for each of two, -/
theorem bigSep_two (Φ : Fin 2 → sProp 𝕄) : bigSep Finset.univ Φ = iprop(Φ 0 ∗ Φ 1) := bigSep_fin_two Φ
/-- for the one, -/
theorem bigSep_unit (Φ : Unit → sProp 𝕄) : bigSep Finset.univ Φ = Φ () := bigSep_univ_eq_bigSepL [()] (by decide) (by decide) Φ
/-- for each of a sum of two kinds, -/
theorem bigSep_plus {A B : Type} [Fintype A] [Fintype B] (Φ : A ⊕ B → sProp 𝕄) :
    bigSep Finset.univ Φ = iprop(bigSep Finset.univ (fun a => Φ (.inl a)) ∗ bigSep Finset.univ fun b => Φ (.inr b)) := bigSep_univ_sum Φ
/-- for each pair of booleans -/
theorem bigSep_BB (Φ : Bool × Bool → sProp 𝕄) :
    bigSep Finset.univ Φ = iprop(Φ (false, false) ∗ Φ (false, true) ∗ Φ (true, false) ∗ Φ (true, true)) :=
  bigSep_univ_eq_bigSepL [(false, false), (false, true), (true, false), (true, true)] (by decide) (by decide) Φ
/-- and for each stream and boolean, written out. -/
theorem bigSep_4B (Φ : Fin 4 × Bool → sProp 𝕄) :
    bigSep Finset.univ Φ = iprop(Φ (0, false) ∗ Φ (0, true) ∗ Φ (1, false) ∗ Φ (1, true) ∗ Φ (2, false) ∗ Φ (2, true) ∗ Φ (3, false) ∗ Φ (3, true)) :=
  bigSep_univ_eq_bigSepL [(0, false), (0, true), (1, false), (1, true), (2, false), (2, true), (3, false), (3, true)] (by decide) (by decide) Φ

/-! ## The slots and the whole buffers -/

/-- The two slots are apart, -/
theorem slot_apart : ∀ p p' : Fin 2, p ≠ p' → Disjoint (slotR p).set (slotR p').set := fun p p' h =>
  Rect.unit_disjoint (0 : Fin 3) (by
    show p.val + 1 ≤ p'.val ∨ p'.val + 1 ≤ p.val
    have := fun e => h (Fin.ext e)
    omega)

/-- and together the buffer. -/
theorem slot_cover : (Finset.univ : Finset (Fin 2)).biUnion (fun p => (slotR p).set) = Finset.univ := by
  refine Finset.eq_univ_iff_forall.mpr fun i => ?_
  have h0 : (i (0 : Fin 3)).val < 2 := (i (0 : Fin 3)).isLt
  have h1 : (i (1 : Fin 3)).val < 256 := (i (1 : Fin 3)).isLt
  have h2 : (i (2 : Fin 3)).val < 2048 := (i (2 : Fin 3)).isLt
  refine Finset.mem_biUnion.mpr ⟨⟨(i (0 : Fin 3)).val, h0⟩, Finset.mem_univ _, Rect.mem_set_unit.mpr fun a => ?_⟩
  fin_cases a
  · exact ⟨le_refl _, Nat.lt_succ_self _⟩
  · exact ⟨Nat.zero_le _, by show (i (1 : Fin 3)).val < 0 + 256; omega⟩
  · exact ⟨Nat.zero_le _, by show (i (2 : Fin 3)).val < 0 + 2048; omega⟩

/-- A whole exchange buffer is its two slots, -/
theorem slots_split (c : Dev nD) (k : Fin 4) :
    iprop(∃ f : Buf (Elt F) ((cm k).view.loc (c : Thread nD τ)), ((cm k).view.loc (c : Thread nD τ)) ↦{fullShare} f)
      ⊢ (iprop(slotE c k 0 ∗ slotE c k 1) : sProp 𝕄) := by
  iintro ⟨%f, H⟩
  ihave H := (Entails.of_eq ((congrArg (fun S => (((cm k).view.loc (c : Thread nD τ)) ↦[S]{fullShare} f : sProp 𝕄)) (cm_whole k).set_eq_univ.symm).trans
    ((pointsTo_rects (c : Thread nD τ) (cm k) fullShare slotR (fun _ _ => rfl) slot_apart slot_cover f).trans (bigSep_two _)))) $$ H
  icases H with ⟨H0, H1⟩
  unfold slotE slotP
  isplitl [H0]; · iexists _; iexact H0
  iexists _; iexact H1

/-- and back. -/
theorem slots_join (c : Dev nD) (k : Fin 4) :
    (iprop(slotE c k 0 ∗ slotE c k 1) : sProp 𝕄)
      ⊢ iprop(∃ f : Buf (Elt F) ((cm k).view.loc (c : Thread nD τ)), ((cm k).view.loc (c : Thread nD τ)) ↦{fullShare} f) := by
  unfold slotE slotP
  iintro ⟨⟨%v0, H0⟩, ⟨%v1, H1⟩⟩
  let vs : Fin 2 → Vec F S1x256x2048 .bf16 := fun | 0 => v0 | 1 => v1
  have hg (t : Fin 2) : (fun j => Rect.glue slotR slot_cover vs ((slotR t).emb j)) = vs t :=
    funext fun y => Rect.glue_emb slotR slot_cover slot_apart vs t y
  ihave H := (Entails.of_eq (bigSep_two (fun t => (owns (c : Thread nD τ) ((cm k).slice (slotR t) (fun _ => rfl)) fullShare
      (fun j => Rect.glue slotR slot_cover vs ((slotR t).emb j)) : sProp 𝕄))).symm) $$ [H0 H1]
  · rw [hg 0, hg 1]
    isplitl [H0]; · iexact H0
    iexact H1
  ihave H := (owns_of_rects (c : Thread nD τ) (cm k) fullShare slotR (fun _ _ => rfl) slot_apart slot_cover (Rect.glue slotR slot_cover vs)) $$ H
  unfold owns
  icases H with ⟨%f, -, H⟩
  iexists f
  iapply (Entails.of_eq (congrArg (fun S => (((cm k).view.loc (c : Thread nD τ)) ↦[S]{fullShare} f : sProp 𝕄)) (cm_whole k).set_eq_univ))
  iexact H

/-- The scratch buffers are the slots, -/
theorem scratch_split (c : Dev nD) : (Pipeline.scopedRest cfg0.spec c : sProp 𝕄) ⊢ all4 (fun k => iprop(slotE c k 0 ∗ slotE c k 1)) := by
  rw [scopedRest0_eq]
  exact BI.sep_mono (slots_split c 0) (BI.sep_mono (slots_split c 1) (BI.sep_mono (slots_split c 2) (slots_split c 3)))

/-- and back. -/
theorem scratch_join (c : Dev nD) : all4 (fun k => iprop(slotE c k 0 ∗ slotE c k 1)) ⊢ (Pipeline.scopedRest cfg0.spec c : sProp 𝕄) := by
  rw [scopedRest0_eq]
  exact BI.sep_mono (slots_join c 0) (BI.sep_mono (slots_join c 1) (BI.sep_mono (slots_join c 2) (slots_join c 3)))

/-! ## The cells' positions and the tokens -/

/-- The tokens of one device's cells: the two handshakes' (which, duty), the first copies' (stream, at the
    receiver) and the inner steps' (step, stream, which). -/
abbrev TK : Type := (Bool × Bool) ⊕ (Fin 4 × Bool) ⊕ ((Fin 14 × Fin 4) × Fin 3)

/-- The cell, the round and the duty of a token. -/
def tokC : TK → CK × ℕ × Bool
  | .inl (b, d) => (if b then CK.fin else CK.bar, 0, d)
  | .inr (.inl (k, b)) => (if b then CK.rcv k 0 else CK.snd k 1, 0, false)
  | .inr (.inr ((s, k), j)) => (match j with | 0 => CK.cr k | 1 => CK.snd k (slotOf (s.val + 1 + 1)) | 2 => CK.rcv k (slotOf (s.val + 1)),
      match j with | 0 => s.val | _ => (s.val + 1) / 2, false)

/-- Which token that is. -/
def tokD : CK × ℕ × Bool → TK
  | (CK.bar, _, d) => .inl (false, d)
  | (CK.fin, _, d) => .inl (true, d)
  | (CK.cr k, r, _) => .inr (.inr ((⟨r % 14, Nat.mod_lt _ (by decide)⟩, k), 0))
  | (CK.snd k p, r, _) => if 2 * r + 1 - p.val = 0 then .inr (.inl (k, false)) else .inr (.inr ((⟨(2 * r + 1 - p.val - 1) % 14, Nat.mod_lt _ (by decide)⟩, k), 1))
  | (CK.rcv k p, r, _) => if 2 * r + p.val = 0 then .inr (.inl (k, true)) else .inr (.inr ((⟨(2 * r + p.val - 1) % 14, Nat.mod_lt _ (by decide)⟩, k), 2))

/-- A token is read back from its cell, round and duty. -/
theorem tokD_tokC : ∀ t : TK, tokD (tokC t) = t := by decide

/-- The device a token is dealt to holds it of this device's cell. -/
def tokE : TK → Dev nD ≃ Dev nD
  | .inl (_, d) => if d then rgtE else rgtE.symm
  | .inr (.inl (k, b)) => if b then dnE k else Equiv.refl _
  | .inr (.inr ((_, k), j)) => match j with | 0 => (dnE k).symm | 1 => Equiv.refl _ | 2 => dnE k

/-- A token as minted. -/
def tokOf (x : Dev nD × TK) : GSem nD τ sig × ℕ × Bool := (cell x.1 (tokC x.2).1, (tokC x.2).2)

/-- No token is minted twice, -/
theorem tokOf_injective : Function.Injective tokOf := by
  rintro ⟨c, t⟩ ⟨c', t'⟩ h
  obtain ⟨rfl, h1⟩ := cell_inj (congrArg Prod.fst h)
  have h2 : tokC t = tokC t' := Prod.ext h1 (congrArg (fun x : GSem nD τ sig × ℕ × Bool => x.2) h)
  rw [← tokD_tokC t, h2, tokD_tokC]

/-- and no cell either. -/
theorem kcell_injective : Function.Injective (fun x : Dev nD × CK => cell x.1 x.2) := fun ⟨c, k⟩ ⟨c', k'⟩ h => by
  obtain ⟨h1, h2⟩ := cell_inj h; exact Prod.ext h1 h2

/-- All cells of all devices. -/
def allCells : Finset (GSem nD τ sig) := Finset.univ.map ⟨fun x : Dev nD × CK => cell x.1 x.2, kcell_injective⟩
/-- All tokens of all devices. -/
def allToks : Finset (GSem nD τ sig × ℕ × Bool) := Finset.univ.map ⟨tokOf, tokOf_injective⟩

/-- The launch element. -/
def u₀ : UU := (initOf (Pipeline.cells cfgs cellOf_inj) (Pipeline.launchToks cfgs cellOf_inj), initOf allCells allToks)

/-- A token of device `c`'s cell. -/
def dtk (c : Dev nD) (t : TK) : sProp 𝕄 := dutyTok ER (cell c (tokC t).1) (tokC t).2.1 (tokC t).2.2

/-- The tokens of one device's cells, -/
def toks (c : Dev nD) : sProp 𝕄 := bigSep Finset.univ fun t : TK => dtk c t
/-- and the tokens one device pays with. -/
def payToks (c : Dev nD) : sProp 𝕄 := bigSep Finset.univ fun t : TK => dtk (tokE t c) t
/-- A device's positions. -/
def posn (c : Dev nD) : sProp 𝕄 := bigSep Finset.univ fun k : CK => atPos ER (cell c k) 0 ∅ 0

/-- What the launch element deals device `c`, -/
def G (c : Dev nD) : sProp 𝕄 :=
  iprop((bigSep Finset.univ fun k : CK => roundState ER (Rd m ρ) (cell c k) 0)
    ∗ (posn c ∗ bigSep Finset.univ fun k : CK => reached ER (cell c k) 0) ∗ toks c)
/-- and what the global step makes of it. -/
def G' (c : Dev nD) : sProp 𝕄 := iprop(∃ K, records m ρ K ∗ posn c ∗ payToks c)

/-- The launch element pays for every cell's state, place and tokens. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m ρ) allCells allToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G posn; simp only [bigSep_sep']
  isplitl [Hst]; · iexact Hst
  isplitl [Hat Hr]
  · isplitl [Hat]; · iexact Hat
    iexact Hr
  iexact Htok

/-- Every token goes to the device that pays it. -/
theorem toks_around : (bigSep Finset.univ fun c : Dev nD => (toks c : sProp 𝕄)) = bigSep Finset.univ fun c : Dev nD => payToks c := by
  unfold toks payToks
  refine (bigSep_univ_comm _).trans (Eq.trans ?_ (bigSep_univ_comm _).symm)
  exact bigSep_congr fun t _ => bigSep_univ_equiv (tokE t) (fun c : Dev nD => (dtk c t : sProp 𝕄))

/-- The one semaphore that outlives the call is the entry barrier's. -/
theorem unscoped_eq (c : Dev nD) : (unscopedSems0 c : sProp 𝕄) = semVal (cell c CK.bar) 0 := by
  unfold unscopedSems0; rw [bigSep_eq_bigSepL_of_eq [SemLoc.reg barS] (by decide) (by decide)]; rfl

/-- The call's semaphores and the barrier's are the cells, each at zero. -/
theorem sems_eq (c : Dev nD) :
    iprop(Pipeline.ownSems0 (Ix := ℕ) (Name := ℕ) (U := UU) (Lvl := ℕ) (Val := Elt F) (τ := τ) osem c ∗ unscopedSems0 c)
      ⊢ (bigSep Finset.univ fun k : CK => semVal (cell c k) 0 : sProp 𝕄) := by
  rw [unscoped_eq, bigSep_plus, bigSep_unit]
  unfold Pipeline.ownSems0
  iintro ⟨H1, H2⟩
  isplitl [H2]; · iexact H2
  iexact H1

/-- One device makes its cells' invariants. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k)))
          ∗ (posn c ∗ bigSep Finset.univ fun k : CK => reached ER (cell c k) 0) ∗ toks c) := by
  unfold G
  iintro ⟨Hos, Hus, Hst, Hat, Htok⟩
  ihave Hv := (sems_eq (F := F) c) $$ [Hos Hus]
  · isplitl [Hos]; · iexact Hos
    iexact Hus
  imod (show iprop((bigSep Finset.univ fun k : CK => semVal (cell c k) 0) ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What may be used any number of times may be used in each part of a product. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- With all invariants made, every device gets all of them, its places, and the tokens that it pays with. -/
theorem regroup :
    (bigSep Finset.univ fun c : Dev nD => iprop((bigSep Finset.univ fun k : CK => iprop(∃ κ : ℕ, cellInv ER (Rd m ρ) κ (cell c k)))
          ∗ (posn c ∗ bigSep Finset.univ fun k : CK => reached ER (cell c k) 0) ∗ toks c) : sProp 𝕄)
      ⊢ bigSep Finset.univ (G' m ρ) := by
  rw [bigSep_sep', bigSep_sep', ← bigSep_univ_prod (fun x : Dev nD × CK => iprop(∃ κ : ℕ, cellInv ER (Rd m ρ) κ (cell x.1 x.2))),
    bigSep_sep', ← bigSep_univ_prod (fun x : Dev nD × CK => (reached ER (cell x.1 x.2) 0 : sProp 𝕄)), toks_around]
  iintro ⟨HI, ⟨Hat, #HR⟩, Htok⟩
  ihave HK := (BI.bigSep_exists_pi Finset.univ (fun (x : Dev nD × CK) (κ : ℕ) => (cellInv ER (Rd m ρ) κ (cell x.1 x.2) : sProp 𝕄))) $$ HI
  icases HK with ⟨%K, #HI⟩
  iapply (with_persistent (R := records m ρ K) (Φ := fun c => iprop(posn c ∗ payToks c)) fun c _ =>
    show iprop(records m ρ K ∗ posn c ∗ payToks c) ⊢ G' m ρ c from by
      unfold G'; iintro H; iexists K; iexact H)
  isplitr
  · unfold records; isplitl; · iexact HI
    iexact HR
  rw [bigSep_sep']
  isplitl [Hat]; · iexact Hat
  iexact Htok

/-- The global step. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The expected credits of a list of inner steps. -/
def credL (c : Dev nD) : List (ℕ × Fin 4) → sProp 𝕄
  | [] => iprop(emp)
  | e :: l => iprop(stepCred c e.2 e.1 ∗ credL c l)

/-- A unit from each neighbour is two units. -/
theorem two_units (ck : CK) (c : Dev nD) :
    iprop(Pipeline.launchCred (fun d => tallyAt (cell (rgt d) ck) 0 1) c ∗ Pipeline.launchCred (fun d => tallyAt (cell (lft d) ck) 0 1) c)
      ⊢ (cred (tallyAt (cell c ck) 0 2) : sProp 𝕄) := by
  rw [show (tallyAt (cell c ck) 0 2 : CellTallies nD τ sig ℕ) = tallyAt (cell c ck) 0 1 + tallyAt (cell c ck) 0 1 from (tallyAt_add _ _ 1 1).symm]
  exact (BI.sep_mono (Pipeline.launchCred_tallyAt (csem ck) rgt lft rgt_lft lft_rgt 0 1 c)
    (Pipeline.launchCred_tallyAt (csem ck) lft rgt lft_rgt rgt_lft 0 1 c)).trans (cred_add _ _).2

/-- The closing barrier's expected signals are the two neighbours'. -/
theorem creds_fin (c : Dev nD) : (Pipeline.launchCred (fun d => finO d) c : sProp 𝕄) ⊢ cred (tallyAt (cell c CK.fin) 0 2) := by
  unfold finO
  rw [Pipeline.launchCred_add]
  exact two_units CK.fin c

/-- What a device may expect of a list of inner steps, from what the others owe for them. -/
theorem creds_steps (c : Dev nD) : ∀ l : List (ℕ × Fin 4),
    ((Pipeline.launchCred (fun d => owedL d l) c : sProp 𝕄) ⊢ iprop(credL c l ∗ cred (tallyAt (cell c CK.fin) 0 2)) : Prop)
  | [] => by
    refine (creds_fin c).trans ?_
    iintro H
    isplitr; · unfold credL; iempintro
    iexact H
  | e :: l => by
    show Pipeline.launchCred (fun d => owedL d l + tallyAt (cell (dnDev e.2 d) (CK.rcv e.2 (slotOf (e.1 + 1)))) (e.1 + 1) (N e.2)
      + tallyAt (cell (upDev e.2 d) (CK.cr e.2)) e.1 1) c ⊢ _
    rw [Pipeline.launchCred_add, Pipeline.launchCred_add, show credL (F := F) c (e :: l) = iprop(stepCred c e.2 e.1 ∗ credL c l) from rfl]
    unfold stepCred
    iintro ⟨⟨H, H1⟩, H2⟩
    ihave H := (creds_steps c l) $$ H
    icases H with ⟨HL, HF⟩
    ihave H1 := (Pipeline.launchCred_tallyAt (csem (CK.rcv e.2 (slotOf (e.1 + 1)))) (dnDev e.2) (upDev e.2) (dn_up e.2) (up_dn e.2) (e.1 + 1) (N e.2) c) $$ H1
    ihave H2 := (Pipeline.launchCred_tallyAt (csem (CK.cr e.2)) (upDev e.2) (dnDev e.2) (up_dn e.2) (dn_up e.2) e.1 1 c) $$ H2
    isplitr [HF]
    · isplitl [H1 H2]
      · isplitl [H1]; · iexact H1
        iexact H2
      iexact HL
    iexact HF

/-- The expected credit of stream `k`'s first copy. -/
abbrev cred1 (c : Dev nD) (k : Fin 4) : sProp 𝕄 := cred (tallyAt (cell c (CK.rcv k (slotOf 0))) 0 (N k))

/-- The expected arrival of a stream's first copy is its source's duty. -/
theorem creds_copy (c : Dev nD) (k : Fin 4) (l : List (Fin 4)) :
    (Pipeline.launchCred (fun d => midO d (k :: l)) c : sProp 𝕄) ⊢ iprop(Pipeline.launchCred (fun d => midO d l) c ∗ cred1 c k) := by
  show Pipeline.launchCred (fun d => midO d l + tallyAt (cell (dnDev k d) (CK.rcv k (slotOf 0))) 0 (N k)) c ⊢ _
  rw [Pipeline.launchCred_add]
  exact BI.sep_mono (BI.Entails.refl _) (Pipeline.launchCred_tallyAt (csem (CK.rcv k (slotOf 0))) (dnDev k) (upDev k) (dn_up k) (up_dn k) 0 (N k) c)

/-- The credits a device starts with. -/
def credsAll (c : Dev nD) : sProp 𝕄 :=
  iprop(cred (tallyAt (cell c CK.bar) 0 2) ∗ cred (tallyAt (cell c CK.fin) 0 2) ∗ all4 (fun k => cred1 c k) ∗ credL c steps)

/-- All that a device may expect at the start, from what all devices owe. -/
theorem creds (c : Dev nD) : (Pipeline.launchCred O₀ c : sProp 𝕄) ⊢ credsAll c := by
  show Pipeline.launchCred (fun d => midO d [0, 1, 2, 3] + tallyAt (cell (rgt d) CK.bar) 0 1 + tallyAt (cell (lft d) CK.bar) 0 1) c ⊢ _
  rw [Pipeline.launchCred_add, Pipeline.launchCred_add]
  unfold credsAll
  iintro ⟨⟨H, H1⟩, H2⟩
  ihave HB := (two_units CK.bar c) $$ [H1 H2]
  · isplitl [H1]; · iexact H1
    iexact H2
  ihave H := (creds_copy c 0 [1, 2, 3]) $$ H; icases H with ⟨H, C0⟩
  ihave H := (creds_copy c 1 [2, 3]) $$ H; icases H with ⟨H, C1⟩
  ihave H := (creds_copy c 2 [3]) $$ H; icases H with ⟨H, C2⟩
  ihave H := (creds_copy c 3 []) $$ H; icases H with ⟨H, C3⟩
  ihave H := (show (Pipeline.launchCred (fun d => midO d []) c : sProp 𝕄) ⊢ _ from creds_steps c steps) $$ H; icases H with ⟨HL, HF⟩
  isplitl [HB]; · iexact HB
  isplitl [HF]; · iexact HF
  isplitr [HL]
  · isplitl [C0]; · iexact C0
    isplitl [C1]; · iexact C1
    isplitl [C2]; · iexact C2
    iexact C3
  iexact HL

/-! ## From what is dealt to what the body starts from -/

/-- The tokens of a list of inner steps. -/
def tokL (c : Dev nD) : List (ℕ × Fin 4) → sProp 𝕄
  | [] => iprop(emp)
  | e :: l => iprop(stepTok c e.2 e.1 ∗ tokL c l)

/-- Tokens and expectations, step by step. -/
theorem resL_intro (c : Dev nD) : ∀ l : List (ℕ × Fin 4), (iprop(tokL c l ∗ credL c l) ⊢ (resL c l : sProp 𝕄) : Prop)
  | [] => by unfold tokL credL resL; iintro ⟨H, -⟩; iexact H
  | e :: l => by
    unfold tokL credL resL
    iintro ⟨⟨HT, HL⟩, HC, HM⟩
    isplitl [HT HC]
    · isplitl [HT]; · iexact HT
      iexact HC
    iapply (resL_intro c l)
    isplitl [HL]; · iexact HL
    iexact HM

/-- The inner steps as bounded pairs. -/
abbrev stepsF : List (Fin 14 × Fin 4) := (List.finRange 14).flatMap fun s => order.map fun k => (s, k)

/-- The tokens of bounded steps are the tokens of the steps. -/
theorem tokL_intro (c : Dev nD) : ∀ l : List (Fin 14 × Fin 4),
    ((bigSepL l fun e => (stepTok c e.2 e.1.val : sProp 𝕄)) ⊢ tokL c (l.map fun e => (e.1.val, e.2)) : Prop)
  | [] => BI.Entails.refl _
  | e :: l => by rw [bigSepL_cons]; exact BI.sep_mono (BI.Entails.refl _) (tokL_intro c l)

/-- A device's tokens of the inner steps, in the order in which they are spent. -/
theorem inner_toks (c : Dev nD) :
    (bigSep Finset.univ fun x : (Fin 14 × Fin 4) × Fin 3 => (dtk (tokE (.inr (.inr x)) c) (.inr (.inr x)) : sProp 𝕄)) ⊢ tokL c steps := by
  rw [bigSep_univ_prod]
  refine (bigSep_mono fun e _ => ?_).trans ((Entails.of_eq (bigSep_univ_eq_bigSepL stepsF (by decide) (by decide)
    fun e : Fin 14 × Fin 4 => (stepTok c e.2 e.1.val : sProp 𝕄))).trans
    ((tokL_intro c stepsF).trans (Entails.of_eq (congrArg (tokL c) (by decide)))))
  rw [bigSep_univ_eq_bigSepL [0, 1, 2] (by decide) (by decide)]
  obtain ⟨s, k⟩ := e
  exact BI.Entails.refl _

/-- A device's tokens of the two barriers. -/
theorem shake_toks (c : Dev nD) : (bigSep Finset.univ (fun x : Bool × Bool => dtk (tokE (.inl x) c) (.inl x)) : sProp 𝕄)
    = iprop(dutyTok ER (cell (lft c) CK.bar) 0 false ∗ dutyTok ER (cell (rgt c) CK.bar) 0 true
      ∗ dutyTok ER (cell (lft c) CK.fin) 0 false ∗ dutyTok ER (cell (rgt c) CK.fin) 0 true) := (bigSep_BB _).trans rfl

/-- A device's tokens of the four first copies. -/
theorem first_toks (c : Dev nD) : (bigSep Finset.univ (fun x : Fin 4 × Bool => dtk (tokE (.inr (.inl x)) c) (.inr (.inl x))) : sProp 𝕄)
    = iprop(dutyTok ER (cell c (CK.snd 0 1)) 0 false ∗ dutyTok ER (cell (dnDev 0 c) (CK.rcv 0 0)) 0 false
      ∗ dutyTok ER (cell c (CK.snd 1 1)) 0 false ∗ dutyTok ER (cell (dnDev 1 c) (CK.rcv 1 0)) 0 false
      ∗ dutyTok ER (cell c (CK.snd 2 1)) 0 false ∗ dutyTok ER (cell (dnDev 2 c) (CK.rcv 2 0)) 0 false
      ∗ dutyTok ER (cell c (CK.snd 3 1)) 0 false ∗ dutyTok ER (cell (dnDev 3 c) (CK.rcv 3 0)) 0 false) := (bigSep_4B _).trans rfl

/-- What a device starts with is what its body asks for. -/
theorem ghost_intro (c : Dev nD) : iprop(posn c ∗ payToks c ∗ credsAll c) ⊢ (ghost c : sProp 𝕄) := by
  unfold posn payToks credsAll ghost startB start1
  rw [bigSep_CK, bigSep_plus, bigSep_plus, shake_toks, first_toks]
  iintro ⟨⟨PB, PF, S00, S01, V00, V01, C0, S10, S11, V10, V11, C1, S20, S21, V20, V21, C2, S30, S31, V30, V31, C3⟩,
    ⟨⟨BL, BR, FL, FR⟩, ⟨TS0, TV0, TS1, TV1, TS2, TV2, TS3, TV3⟩, HT⟩, CB, CF, ⟨K0, K1, K2, K3⟩, HL⟩
  ihave HT := (inner_toks c) $$ HT
  isplitl [PB BL BR CB PF FL FR CF]
  · isplitl [PB BL BR CB]
    · isplitl [PB]; · iexact PB
      isplitl [BL]; · iexact BL
      isplitl [BR]; · iexact BR
      iexact CB
    isplitl [PF]; · iexact PF
    isplitl [FL]; · iexact FL
    isplitl [FR]; · iexact FR
    iexact CF
  isplitr [HT HL]
  · isplitl [S00 S01 V00 V01 C0 TS0 TV0 K0]
    · isplitl [S00 S01 V00 V01 C0]
      · isplitl [S00]; · iexact S00
        isplitl [S01]; · iexact S01
        isplitl [V00]; · iexact V00
        isplitl [V01]; · iexact V01
        iexact C0
      isplitl [TS0]; · iexact TS0
      isplitl [TV0]; · iexact TV0
      iexact K0
    isplitl [S10 S11 V10 V11 C1 TS1 TV1 K1]
    · isplitl [S10 S11 V10 V11 C1]
      · isplitl [S10]; · iexact S10
        isplitl [S11]; · iexact S11
        isplitl [V10]; · iexact V10
        isplitl [V11]; · iexact V11
        iexact C1
      isplitl [TS1]; · iexact TS1
      isplitl [TV1]; · iexact TV1
      iexact K1
    isplitl [S20 S21 V20 V21 C2 TS2 TV2 K2]
    · isplitl [S20 S21 V20 V21 C2]
      · isplitl [S20]; · iexact S20
        isplitl [S21]; · iexact S21
        isplitl [V20]; · iexact V20
        isplitl [V21]; · iexact V21
        iexact C2
      isplitl [TS2]; · iexact TS2
      isplitl [TV2]; · iexact TV2
      iexact K2
    isplitl [S30 S31 V30 V31 C3]
    · isplitl [S30]; · iexact S30
      isplitl [S31]; · iexact S31
      isplitl [V30]; · iexact V30
      isplitl [V31]; · iexact V31
      iexact C3
    isplitl [TS3]; · iexact TS3
    isplitl [TV3]; · iexact TV3
    iexact K3
  iapply (resL_intro c steps)
  isplitl [HT]; · iexact HT
  iexact HL

/-! ## The pipeline's data -/

/-- What device `c` starts from. -/
def start (c : Dev nD) : sProp 𝕄 := iprop(G' m ρ c ∗ credsAll c ∗ levAts L lv)

/-- What a device holds before the body: its start and the slots, with any contents; -/
def Φ₀ (c : Dev nD) : sProp 𝕄 := iprop(start m ρ c ∗ all4 (fun k => iprop(slotE c k 0 ∗ slotE c k 1)))
/-- and after it: every cell closed, at zero, and the slots. -/
def Φ₁ (c : Dev nD) : sProp 𝕄 := iprop(closedAll c ∗ all4 (fun k => iprop(slotE c k 0 ∗ slotE c k 1)))

/-- What the pipeline's buffers hold before and after the one point, what is held beside them, and what is owed. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Every input is fetched. -/
theorem fetch_in (w : Fin 5) (hw : w ≠ 4) (t : Fin cfg0.N) : (cfg0.win w).fetch t = true := by
  rw [fin_N0 t]; fin_cases w <;> first | rfl | exact absurd rfl hw

/-- Holding a whole buffer is holding it at contents that are the given ones. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body, -/
def bodyPre (c : Dev nD) : sProp 𝕄 :=
  iprop(Φ₀ m ρ c ∗ (dats m ρ 0 c).owesAt 0 t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))

/-- and what the body hands back. -/
def bodyPost (c : Dev nD) : sProp 𝕄 :=
  iprop(Φ₁ c ∗ (dats m ρ 0 c).owesAt 0 t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

/-- The whole body from what the pipeline hands it. -/
theorem sound_body (c : Dev nD) :
    bodyPre m ρ c ⊢ wp frame (wpE (defs₀ (F := F)) 𝒱₀ (c : Thread nD τ) none) Set.univ (.op .deviceId fun d => bodyProg d) fun _ => bodyPost m ρ c := by
  rw [wp_deviceId]
  unfold bodyPre Φ₀ start G'
  iintro ⟨⟨⟨⟨%K, #HR, Hpos, Htok⟩, Hcr, #Hlev⟩, HS⟩, Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩
  have h0 : g0 = xstg m ρ c := by rw [hg0]; unfold Dat.before; rw [if_pos (fetch_in 0 (by decide) t0_0)]; rfl
  have h1 : g1 = wstg m ρ c := by rw [hg1]; unfold Dat.before; rw [if_pos (fetch_in 1 (by decide) t0_0)]; rfl
  have h2 : g2 = sxstg m ρ c := by rw [hg2]; unfold Dat.before; rw [if_pos (fetch_in 2 (by decide) t0_0)]; rfl
  have h3 : g3 = swstg m ρ c := by rw [hg3]; unfold Dat.before; rw [if_pos (fetch_in 3 (by decide) t0_0)]; rfl
  subst h0 h1 h2 h3
  ihave Hg := (ghost_intro (F := F) c) $$ [Hpos Htok Hcr]
  · isplitl [Hpos]; · iexact Hpos
    isplitl [Htok]; · iexact Htok
    iexact Hcr
  unfold Dat.owesAt Pipeline.owesWithin
  icases Ho with ⟨%W, %hW, HO⟩
  rw [show (dats m ρ 0 c).owed t0_0.castSucc = O₀ c from rfl]
  iapply (body_spec m ρ K c g4) $$ [Hg HS Hx Hw Hsx Hsw Hout HO]
  · isplitr; · iexact HR
    isplitr; · iexact Hlev
    isplitl [Hg]; · iexact Hg
    isplitl [HS]; · iexact HS
    isplitl [Hx]; · (unfold xPt; iexact Hx)
    isplitl [Hw]; · (unfold wPt; iexact Hw)
    isplitl [Hsx Hsw]
    · unfold sPt; isplitl [Hsx]; · iexact Hsx
      iexact Hsw
    isplitl [Hout]; · iexact Hout
    iexists W; iexact HO
  unfold sPt xPt wPt
  iintro ⟨Hcl, HS, Hx, Hw, ⟨Hsx, Hsw⟩, Hout, ⟨%W', HO⟩⟩
  unfold bodyPost Φ₁ Dat.owesAt Pipeline.owesWithin
  rw [show (dats m ρ 0 c).owed t0_0.succ = 0 from rfl]
  isplitl [Hcl HS]
  · isplitl [Hcl]; · iexact Hcl
    iexact HS
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

end Cert.KernelIdeal.K1

end
-- ==== Proof.KIRun.lean ====
/- The run of @main on the sixteen devices: the body obligation and the launch.
-/
module

public import proofs.«01_k».proof.Proof.KILaunch
public import proofs.«01_k».proof.Proof.Gen.KernelIdeal.Points
public import Idealize.ShloMosaic.Lib.Pipeline.CollectiveSegs
public import Idealize.ShloMosaic.Lib.MemrefSat

@[expose] public section

noncomputable section

namespace Cert.KernelIdeal.K1

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

set_option maxRecDepth 100000 in
/-- The pipeline's call of the body, -/
theorem body_row : (defs₀ (F := F)) .tc cfg0.body (cfg0.bodyArgs t0_0 (cfg0.slots t0_0)) = bodyAt0 t0_0 := rfl

set_option maxRecDepth 100000 in
/-- is the body on the staging buffers, -/
theorem bodyAt_eq : bodyAt0 (F := F) t0_0 = (.op .deviceId fun d => bodyProg d : Prog (TpuEff nD τ sig (Elt F) Λ₀ .tc) PUnit) := body_eq

set_option maxRecDepth 100000 in
/-- which from what the pipeline hands it ends with what it is to hand back. -/
theorem body_A (c : Dev nD) : bodyPre m ρ c ⊢ wp frame (wpE (defs₀ (F := F)) 𝒱₀ (c : Thread nD τ) none) Set.univ ((defs₀ (F := F)) .tc cfg0.body (cfg0.bodyArgs t0_0 (cfg0.slots t0_0))) fun _ => bodyPost m ρ c := by
  rw [body_row, bodyAt_eq]
  exact sound_body m ρ c

/-- The pipeline's form of what it hands the body, -/
theorem body_pre (c : Dev nD) : iprop((dats m ρ 0 c).Φ t0_0.castSucc ∗ (dats m ρ 0 c).owesAt 0 t0_0.castSucc
    ∗ bigSep Finset.univ fun w : Fin cfg0.W => iprop(∃ d, owns (c : Thread nD τ) ((cfg0.win w).stage (cfg0.slots t0_0 w)) fullShare ((dats m ρ 0 c).before w t0_0 d)))
    ⊢ bodyPre m ρ c := by
  rw [bigSep_W0]
  unfold bodyPre
  refine BI.sep_mono ?_ (BI.sep_mono ?_ (BI.sep_mono ?_ (BI.sep_mono ?_ (BI.sep_mono ?_ (BI.sep_mono ?_ ?_)))))
  · exact Entails.refl _
  · exact Entails.refl _
  · exact exists_mono fun _ => Entails.of_eq (owns_whole_eq c cc0_stg0_0 _)
  · exact exists_mono fun _ => Entails.of_eq (owns_whole_eq c cc0_stg1_0 _)
  · exact exists_mono fun _ => Entails.of_eq (owns_whole_eq c cc0_stg2_0 _)
  · exact exists_mono fun _ => Entails.of_eq (owns_whole_eq c cc0_stg3_0 _)
  · exact exists_mono fun _ => Entails.of_eq (owns_whole_eq c cc0_stg4_0 _)

/-- and of what it takes back. -/
theorem body_post (c : Dev nD) : bodyPost m ρ c ⊢ iprop((dats m ρ 0 c).Φ t0_0.succ ∗ (dats m ρ 0 c).owesAt 0 t0_0.succ
    ∗ bigSep Finset.univ fun w : Fin cfg0.W => owns (c : Thread nD τ) ((cfg0.win w).stage (cfg0.slots t0_0 w)) fullShare ((dats m ρ 0 c).after w t0_0)) := by
  rw [bigSep_W0]
  unfold bodyPost
  refine BI.sep_mono ?_ (BI.sep_mono ?_ (BI.sep_mono ?_ (BI.sep_mono ?_ (BI.sep_mono ?_ (BI.sep_mono ?_ ?_)))))
  · exact Entails.refl _
  · exact Entails.refl _
  · exact Entails.of_eq (owns_whole_eq c cc0_stg0_0 _).symm
  · exact Entails.of_eq (owns_whole_eq c cc0_stg1_0 _).symm
  · exact Entails.of_eq (owns_whole_eq c cc0_stg2_0 _).symm
  · exact Entails.of_eq (owns_whole_eq c cc0_stg3_0 _).symm
  · exact Entails.of_eq (owns_whole_eq c cc0_stg4_0 _).symm

/-- The body does at the one point what the pipeline asks. -/
theorem body_obligation (c : Dev nD) : BodyObligation (dats (F := F) m ρ 0 c) (defs₀ (F := F)) 𝒱₀ 0 Set.univ := by
  intro t
  rw [fin_N0 t]
  refine (body_pre m ρ c).trans ((body_A m ρ c).trans (wp_mono _ _ _ fun _ => ?_))
  exact body_post m ρ c

/-! ## The run -/

/-- The call's own semaphores are distinct and not the pipeline's. -/
theorem ownSemFacts : Pipeline.OwnSemFacts cfg0.spec osem := by decide

/-- Every window's array is held whole. -/
theorem share_eq (c : Dev nD) (w : Fin cfg0.W) : (dats m ρ 0 c).share w = fullShare := by unfold Dat.share; split <;> rfl

/-- A device's start, from what the launch gives. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  iempintro

/-- What is held before the body, from the start and the scratch buffers. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_split c); iexact Hr

/-- What is held after the body gives the semaphores back at zero, and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscoped_eq]
  unfold Φ₁ closedAll Pipeline.ownSems0
  rw [bigSep_OK]
  iintro ⟨⟨HB, HF, ⟨A0, A1, A2, A3, A4⟩, ⟨B0, B1, B2, B3, B4⟩, ⟨C0, C1, C2, C3, C4⟩, D0, D1, D2, D3, D4⟩, HS⟩
  isplitl [HB]; · iexact HB
  isplitr [HS]
  · isplitl [HF]; · iexact HF
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [C0]; · iexact C0
    isplitl [C1]; · iexact C1
    isplitl [C2]; · iexact C2
    isplitl [C3]; · iexact C3
    isplitl [C4]; · iexact C4
    isplitl [D0]; · iexact D0
    isplitl [D1]; · iexact D1
    isplitl [D2]; · iexact D2
    isplitl [D3]; · iexact D3
    iexact D4
  iapply (scratch_join c); iexact HS

/-- A staging wait is below everything owed. -/
theorem mayWait_stage (c : Dev nD) (sm : SemLoc sig) (h : ckOf sm = none) (O : CellTallies nD τ sig ℕ) (hO : O = O₀ c ∨ O = 0) :
    (levAts L lv : sProp 𝕄) ⊢ MayWait (c : Thread nD τ) sm 0 O := by
  have hA : Above 0 O := by rcases hO with rfl | rfl; · exact O₀_above c
                            exact Above.zero 0
  exact MayOwe.of_cut (L := L) (lev := lv) 0 (fun p hp => by rw [Finset.mem_singleton.mp hp, L_tc]; exact Finset.mem_range.mpr (show 0 < 16 by decide))
    (fun g u hg => (hA g u hg).1)
    (fun p hp => by rw [Finset.mem_singleton.mp hp]; exact le_of_eq (by show (ckOf sm).elim 0 _ = 0; rw [h]; rfl))
    (fun g u hg => (hA g u hg).2)

/-- Every wait of the pipeline is below everything owed. -/
theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by revert s; revert w; decide) _ (by
      rcases t with ⟨_ | _, ht⟩
      · exact Or.inl rfl
      · exact Or.inr rfl)

/-- A window's array after the run. -/
def finalA (c : Dev nD) (w : Fin cfg0.W) : Buf (Elt F) ((cfg0.win w).arr.view.loc (c : Thread nD τ)) := (dats m ρ 0 c).arrAt w cfg0.N

/-- After the run every window's array is the computed one, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every counter zero, every fair execution of the sixteen devices ends, the windows' arrays as
    computed and every counter zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An input's array after the run is what it was. -/
theorem finalA_in (c : Dev nD) (w : Fin 5) (hw : w ≠ 4) : finalA m ρ c w = (s₀ m ρ).mem ((cfg0.win w).arr.view.loc (c : Thread nD τ)) :=
  (dats (F := F) m ρ 0 c).arrAt_in w (by fin_cases w <;> first | rfl | exact absurd rfl hw) _

end Cert.KernelIdeal.K1

end
-- ==== Proof.KIValue.lean ====
/- What the sixteen devices compute, over the extended reals: device `c`'s result at row `r` and column `j` is
   `y · logistic y` for the 4096-deep product `y` of row `256 c + r` of `x` and column `j` of `w`, scaled. -/
module

public import proofs.«01_k».proof.Proof.KIRun
public import Idealize.ShloMosaic.Lib.Pointwise
public import Idealize.ShloMosaic.Lib.Pipeline.Value

@[expose] public section

noncomputable section

namespace Cert.KernelIdeal.K1

open Cert.KernelIdeal.Gen
open Idealize.ShloMosaic
open Idealize.ShloMosaic.TcCoe
open Idealize.SL.Sem

/-! ## The operations of a step at an index -/

/-- A block product is the sum over its 256 positions. -/
theorem contrib_apply (x : Vec Ideal S256x256 .fp8e5m2) (w : Vec Ideal S256x2048 .fp8e5m2) (r : Fin 256) (q : Fin 2048) :
    contrib (F := Ideal) x w (ix2 r q) = ∑ t : Fin 256, (x (ix2 r t) : EReal) * w (ix2 t q) := by
  pointwise [contrib]

/-- What arrived plus the own product. -/
theorem merged_apply (v : Vec Ideal S1x256x2048 .bf16) (x : Vec Ideal S256x256 .fp8e5m2) (w : Vec Ideal S256x2048 .fp8e5m2)
    (r : Fin 256) (q : Fin 2048) :
    merged (F := Ideal) v x w (ix2 r q) = (v (ix3 0 r q) : EReal) + contrib (F := Ideal) x w (ix2 r q) := by
  pointwise [merged]

/-- The first block sent is the own product. -/
theorem payFirst_apply (x : Vec Ideal S256x256 .fp8e5m2) (w : Vec Ideal S256x2048 .fp8e5m2) (r : Fin 256) (q : Fin 2048) :
    payFirst (F := Ideal) x w (ix3 0 r q) = contrib (F := Ideal) x w (ix2 r q) := by
  pointwise [payFirst]

/-- The blocks sent after it are the merged ones. -/
theorem payNext_apply (v : Vec Ideal S1x256x2048 .bf16) (x : Vec Ideal S256x256 .fp8e5m2) (w : Vec Ideal S256x2048 .fp8e5m2)
    (r : Fin 256) (q : Fin 2048) :
    payNext (F := Ideal) v x w (ix3 0 r q) = merged (F := Ideal) v x w (ix2 r q) := by
  pointwise [payNext]

/-- The last merged block is scaled and activated. -/
theorem payLast_apply (sc : Ideal .f32) (v : Vec Ideal S1x256x2048 .bf16) (x : Vec Ideal S256x256 .fp8e5m2) (w : Vec Ideal S256x2048 .fp8e5m2)
    (r : Fin 256) (q : Fin 2048) :
    payLast (F := Ideal) sc v x w (ix2 r q)
      = ((merged (F := Ideal) v x w (ix2 r q) : EReal) * sc) * Ideal.logistic ((merged (F := Ideal) v x w (ix2 r q) : EReal) * sc) := by
  pointwise [payLast]

/-! ## The row blocks -/

/-- The row block of `x` that the `r`-th product of stream `k` on device `d` reads. -/
def blk (k : Fin 4) (d : Dev nD) (r : Fin 16) : Fin 16 :=
  if k.val < 2 then ⟨(d.val + 15 - r.val) % 16, Nat.mod_lt _ (by decide)⟩ else ⟨(d.val + r.val + 1) % 16, Nat.mod_lt _ (by decide)⟩

/-- Its rows begin at 256 times its number, -/
theorem xoff_row : ∀ (k : Fin 4) (d : Dev nD) (r : Fin 16), xoff k d r 0 = 256 * (blk k d r).val := by decide +kernel

/-- it takes all the columns, -/
theorem xoff_col : ∀ (k : Fin 4) (d : Dev nD) (r : Fin 16), xoff k d r 1 = 0 := by decide +kernel

/-- the sender's block of one product earlier is the same, -/
theorem blk_up : ∀ (k : Fin 4) (d : Dev nD) (r : Fin 15), blk k (upDev k d) r.castSucc = blk k d r.succ := by decide +kernel

/-- and the last product is of the device's own rows. -/
theorem blk_last : ∀ (k : Fin 4) (d : Dev nD), blk k d 15 = d := by decide +kernel

/-- The device `i` hops up the stream. -/
def hop (k : Fin 4) (i : Fin 16) (d : Dev nD) : Dev nD := (upDev k)^[i.val] d

/-- Sixteen hops meet every device once. -/
theorem hop_bijective : ∀ (k : Fin 4) (d : Dev nD), Function.Injective fun i => hop k i d := by decide +kernel

/-! ## What the devices hold -/

section Any
variable {F : FTy → Type} [FloatOps F]
variable (m : (ℓ : Loc nD τ sig) → Buf (Elt F) ℓ) (ρ : Dev nD → PrngReg)

/-- Device `c`'s columns of `x`. -/
def xA (c : Dev nD) : Vec F S4096x256 .fp8e5m2 := m ((c : Thread nD τ).loc main_arg0)
/-- Device `c`'s rows of `w`. -/
def wA (c : Dev nD) : Vec F S256x8192 .fp8e5m2 := m ((c : Thread nD τ).loc main_arg1)
/-- The scale of `x`. -/
def sxA (c : Dev nD) : Vec F S1 .f32 := m ((c : Thread nD τ).loc main_arg2)
/-- The scale of `w`. -/
def swA (c : Dev nD) : Vec F S1 .f32 := m ((c : Thread nD τ).loc main_arg3)

/-- The pipeline stages the whole of `x`'s columns, -/
theorem xstg_eq (c : Dev nD) : xstg m ρ c = xA m c := by
  funext i
  show xA m c ((win0_0.rect t0_0).emb i) = xA m c i
  exact congrArg _ (funext fun a => Fin.ext (Pipeline.Window.rect_emb_val_of_index_zero win0_0 t0_0 a rfl i))

/-- of `w`'s rows, -/
theorem wstg_eq (c : Dev nD) : wstg m ρ c = wA m c := by
  funext i
  show wA m c ((win0_1.rect t0_0).emb i) = wA m c i
  exact congrArg _ (funext fun a => Fin.ext (Pipeline.Window.rect_emb_val_of_index_zero win0_1 t0_0 a rfl i))

/-- and the scale of `x`. -/
theorem sxstg_eq (c : Dev nD) : sxstg m ρ c = sxA m c := by
  funext i
  show sxA m c ((win0_2.rect t0_0).emb i) = sxA m c i
  exact congrArg _ (funext fun a => Fin.ext (Pipeline.Window.rect_emb_val_of_index_zero win0_2 t0_0 a rfl i))

/-- The other scale. -/
theorem swstg_eq (c : Dev nD) : swstg m ρ c = swA m c := by
  funext i
  show swA m c ((win0_3.rect t0_0).emb i) = swA m c i
  exact congrArg _ (funext fun a => Fin.ext (Pipeline.Window.rect_emb_val_of_index_zero win0_3 t0_0 a rfl i))

/-- The block of `x` that a product reads is its row block. -/
theorem xb_apply (c : Dev nD) (k : Fin 4) (b : Fin 16) (r : Fin 256) (t : Fin 256) :
    xb m ρ c k b (ix2 r t) = xA m c (ix2 ⟨256 * (blk k c b).val + r.val, by omega⟩ t) := by
  unfold xb
  rw [xstg_eq]
  show xA m c ((xR k c b).emb (ix2 r t)) = _
  refine congrArg _ (funext fun a => Fin.ext ?_)
  rw [Rect.emb_apply]
  fin_cases a
  · show xoff k c b 0 + 1 * r.val = 256 * (blk k c b).val + r.val
    rw [xoff_row, Nat.one_mul]
  · show xoff k c b 1 + 1 * t.val = t.val
    rw [xoff_col, Nat.one_mul, Nat.zero_add]

/-- The block of `w` that stream `k` reads is its columns. -/
theorem wb_apply (c : Dev nD) (k : Fin 4) (t : Fin 256) (q : Fin 2048) :
    wb m ρ c k (ix2 t q) = wA m c (ix2 t ⟨2048 * k.val + q.val, by omega⟩) := by
  unfold wb
  rw [wstg_eq]
  show wA m c ((colR k).emb (ix2 t q)) = _
  refine congrArg _ (funext fun a => Fin.ext ?_)
  rw [Rect.emb_apply]
  fin_cases a
  · show 0 + 1 * t.val = t.val
    omega
  · show col k + 1 * q.val = 2048 * k.val + q.val
    rw [col_eq, Nat.one_mul]

/-- The scale a device applies. -/
theorem scl_eq (c : Dev nD) : scl m ρ c = Scalar.mulf (sxA m c (ix1 0)) (swA m c (ix1 0)) := by
  unfold scl
  rw [sxstg_eq, swstg_eq]
  have hi : ∀ i : S1.Idx, i = ix1 0 := fun i => by rw [eq_ix1 i]; exact congrArg _ (Subsingleton.elim (α := Fin 1) _ _)
  have h2 : ∀ (A : Vec F S1 .f32) (i : S1.Idx), View.read (Elt F) ((Memref.whole cc0_stg2_0).access (Rect.unit (s := S1) ![0] S1.size inb_S1_S1_0)) A i = A (ix1 0) :=
    fun A i => congrArg A (hi ((Rect.unit (s := S1) ![0] S1.size inb_S1_S1_0).emb i))
  have h3 : ∀ (A : Vec F S1 .f32) (i : S1.Idx), View.read (Elt F) ((Memref.whole cc0_stg3_0).access (Rect.unit (s := S1) ![0] S1.size inb_S1_S1_0)) A i = A (ix1 0) :=
    fun A i => congrArg A (hi ((Rect.unit (s := S1) ![0] S1.size inb_S1_S1_0).emb i))
  rw [h2, h3]

/-- The result array after the run is what the body computed. -/
theorem finalA_out (c : Dev nD) : finalA m ρ c 4 = outAt m ρ c := by
  funext i
  have h := congrFun (Pipeline.Dat.read_blk_arrAt_eq_flushed (dats m ρ 0 c) 4
    (fun t t' _ _ hne => absurd ((fin_N0 t).trans (fin_N0 t').symm) hne) cfg0.N t0_0 t0_0.isLt rfl) i
  have he : (win0_4.rect t0_0).emb i = i :=
    funext fun a => Fin.ext (Pipeline.Window.rect_emb_val_of_index_zero win0_4 t0_0 a rfl i)
  have hR : (dats m ρ 0 c).flushed 4 t0_0 i = outAt m ρ c i := rfl
  have hL : ∀ A : Vec F S256x8192 .f32, ((cfg0.win 4).blk t0_0).view.read (Elt F) A i = A ((win0_4.rect t0_0).emb i) := fun _ => rfl
  have h' := (hL (finalA m ρ c 4)).symm.trans (h.trans hR)
  rwa [he] at h'

end Any

/-! ## The sums -/

variable (m : (ℓ : Loc nD τ sig) → Buf (Elt Ideal) ℓ) (ρ : Dev nD → PrngReg)

/-- Device `d`'s share of the product of row block `b` and stream `k`. -/
def share (k : Fin 4) (b : Fin 16) (r : Fin 256) (q : Fin 2048) (d : Dev nD) : EReal :=
  ∑ t : Fin 256, (xA m d (ix2 ⟨256 * b.val + r.val, by omega⟩ t) : EReal) * wA m d (ix2 t ⟨2048 * k.val + q.val, by omega⟩)

/-- A product of a step is the device's share of its row block. -/
theorem contrib_share (c : Dev nD) (k : Fin 4) (b : Fin 16) (r : Fin 256) (q : Fin 2048) :
    contrib (F := Ideal) (xb m ρ c k b) (wb m ρ c k) (ix2 r q) = share m k (blk k c b) r q c := by
  rw [contrib_apply]
  unfold share
  exact Finset.sum_congr rfl fun t _ => by rw [xb_apply, wb_apply]

/-- What a device sends at step `s` is the sum of the shares of `s + 1` devices, all of one row block. -/
theorem acc_sum (k : Fin 4) (r : Fin 256) (q : Fin 2048) : ∀ (s : ℕ) (hs : s < 16) (c : Dev nD),
    acc m ρ k s c (ix3 0 r q) = ∑ i ∈ Finset.range (s + 1), share m k (blk k c ⟨s, hs⟩) r q ((upDev k)^[i] c)
  | 0, hs, c => by
    show payFirst (F := Ideal) (xb m ρ c k 0) (wb m ρ c k) (ix3 0 r q) = _
    rw [payFirst_apply, contrib_share, Finset.sum_range_one]
    rfl
  | s + 1, hs, c => by
    show payNext (F := Ideal) (acc m ρ k s (upDev k c)) (xb m ρ c k (prodOf s)) (wb m ρ c k) (ix3 0 r q) = _
    have hp : prodOf s = ⟨s + 1, hs⟩ := Fin.ext (Nat.mod_eq_of_lt hs)
    have hb : blk k (upDev k c) ⟨s, Nat.lt_of_succ_lt hs⟩ = blk k c ⟨s + 1, hs⟩ := blk_up k c ⟨s, Nat.lt_of_succ_lt_succ hs⟩
    rw [payNext_apply, merged_apply, contrib_share, acc_sum k r q s (Nat.lt_of_succ_lt hs) (upDev k c), hb, hp,
      Finset.sum_range_succ' _ (s + 1)]
    rfl

/-- The last merged block of a device is the sum of all devices' shares of its own rows. -/
theorem merged_sum (k : Fin 4) (c : Dev nD) (r : Fin 256) (q : Fin 2048) :
    merged (F := Ideal) (acc m ρ k 14 (upDev k c)) (xb m ρ c k 15) (wb m ρ c k) (ix2 r q)
      = ∑ d : Dev nD, share m k c r q d := by
  have hb : blk k (upDev k c) ⟨14, by decide⟩ = c := (blk_up k c 14).trans (blk_last k c)
  rw [merged_apply, contrib_share, acc_sum m ρ k r q 14 (by decide) (upDev k c), hb, blk_last]
  have h := Finset.sum_range_succ' (fun i => share m k c r q ((upDev k)^[i] c)) 15
  refine Eq.trans h.symm ?_
  rw [Finset.sum_range]
  exact Fintype.sum_bijective (fun i => hop k i c) (Finite.injective_iff_bijective.mp (hop_bijective k c)) _ _ fun i => rfl

/-- Device `c`'s result. -/
theorem outAt_apply (c : Dev nD) (r : Fin 256) (j : Fin 8192) :
    outAt m ρ c (ix2 r j)
      = ((∑ d : Dev nD, ∑ t : Fin 256, (xA m d (ix2 ⟨256 * c.val + r.val, by have := c.isLt; change c.val < 16 at this; omega⟩ t) : EReal) * wA m d (ix2 t j)) * scl m ρ c)
        * Ideal.logistic ((∑ d : Dev nD, ∑ t : Fin 256, (xA m d (ix2 ⟨256 * c.val + r.val, by have := c.isLt; change c.val < 16 at this; omega⟩ t) : EReal) * wA m d (ix2 t j)) * scl m ρ c) := by
  have hj : (⟨2048 * (j.val / 2048) + j.val % 2048, by omega⟩ : Fin 8192) = j := Fin.ext (Nat.div_add_mod _ _)
  have hs : (∑ d : Dev nD, share m ⟨j.val / 2048, by omega⟩ c r ⟨j.val % 2048, Nat.mod_lt _ (by decide)⟩ d)
      = ∑ d : Dev nD, ∑ t : Fin 256, (xA m d (ix2 ⟨256 * c.val + r.val, by have := c.isLt; change c.val < 16 at this; omega⟩ t) : EReal) * wA m d (ix2 t j) := by
    refine Finset.sum_congr rfl fun d _ => Finset.sum_congr rfl fun t _ => ?_
    show _ * wA m d (ix2 t ⟨2048 * (j.val / 2048) + j.val % 2048, _⟩) = _
    rw [hj]
  show outK m ρ c ⟨j.val / 2048, _⟩ (ix2 r ⟨j.val % 2048, _⟩) = _
  unfold outK
  rw [payLast_apply, merged_sum, hs]

end Cert.KernelIdeal.K1

end
-- ==== Proof.RValue.lean ====
/- What the reference computes, over the extended reals. -/
module

public import proofs.«01_k».proof.Proof.Gen.ReferenceIdeal.Value
public import Idealize.ShloMosaic.Lib.Pointwise
public import Idealize.ShloMosaic.Lib.Tactic
public import Idealize.ShloMosaic.Lib.Pipeline.ValueKit

@[expose] public section

noncomputable section

namespace Cert.ReferenceIdeal.K1

open Cert.ReferenceIdeal Cert.ReferenceIdeal.Gen
open Idealize.ShloMosaic
open Idealize.ShloMosaic.TcCoe
open Idealize.SL.Sem

variable (m : (ℓ : Loc nD τ sig) → Buf (Elt Ideal) ℓ)

/-- The whole `x`. -/
def xW (c : Dev nD) : Vec Ideal S4096x4096 .fp8e5m2 := m ((c : Thread nD τ).loc main_arg0)
/-- The whole `w`. -/
def wW (c : Dev nD) : Vec Ideal S4096x8192 .fp8e5m2 := m ((c : Thread nD τ).loc main_arg1)
/-- The scale of `x`. -/
def sxW (c : Dev nD) : Vec Ideal S1 .f32 := m ((c : Thread nD τ).loc main_arg2)
/-- The scale of `w`. -/
def swW (c : Dev nD) : Vec Ideal S1 .f32 := m ((c : Thread nD τ).loc main_arg3)

/-- `y / (1 + exp (-y))`. -/
def silu (y : EReal) : EReal := Ideal.div y (1 + Ideal.exp (0 - y))

/-- The reference's result. -/
def refOut (c : Dev nD) : Vec Ideal S4096x8192 .f32 := fun i =>
  silu ((∑ K : Fin 4096, (xW m c (ix2 (n0 := 4096) (n1 := 4096) (i 0) K) : EReal) * wW m c (ix2 (n0 := 4096) (n1 := 8192) K (i 1)))
    * ((sxW m c (ix1 0) : EReal) * swW m c (ix1 0)))

/-- The body's value at an index. -/
theorem pay_apply (x : Vec Ideal S4096x4096 .fp8e5m2) (w : Vec Ideal S4096x8192 .fp8e5m2) (a b : Ideal .f32) (r : Fin 4096) (j : Fin 8192) :
    k0_pay1 (F := Ideal) x w a b (ix2 r j)
      = silu ((∑ K : Fin 4096, (x (ix2 r K) : EReal) * w (ix2 K j)) * ((a : EReal) * b)) := by
  pointwise [k0_pay1, silu]

/-- The pipeline's one point reads the whole `x`, -/
theorem iblk0_eq (c : Dev nD) : iblk m c 0 t0_0 = xW m c := by
  funext i
  show xW m c ((win0_0.rect t0_0).emb i) = xW m c i
  exact congrArg _ (funext fun a => Fin.ext (Pipeline.Window.rect_emb_val_of_index_zero win0_0 t0_0 a rfl i))

/-- the whole `w`, -/
theorem iblk1_eq (c : Dev nD) : iblk m c 1 t0_0 = wW m c := by
  funext i
  show wW m c ((win0_1.rect t0_0).emb i) = wW m c i
  exact congrArg _ (funext fun a => Fin.ext (Pipeline.Window.rect_emb_val_of_index_zero win0_1 t0_0 a rfl i))

/-- the scale of `x` -/
theorem iblk2_eq (c : Dev nD) : iblk m c 2 t0_0 = sxW m c := by
  funext i
  show sxW m c ((win0_2.rect t0_0).emb i) = sxW m c i
  exact congrArg _ (funext fun a => Fin.ext (Pipeline.Window.rect_emb_val_of_index_zero win0_2 t0_0 a rfl i))

/-- and the scale of `w`. -/
theorem iblk3_eq (c : Dev nD) : iblk m c 3 t0_0 = swW m c := by
  funext i
  show swW m c ((win0_3.rect t0_0).emb i) = swW m c i
  exact congrArg _ (funext fun a => Fin.ext (Pipeline.Window.rect_emb_val_of_index_zero win0_3 t0_0 a rfl i))

/-- The one point's block of the result is the whole result. -/
theorem emb4_eq (y : S4096x8192.Idx) : (win0_4.rect t0_0).emb y = y :=
  funext fun a => Fin.ext (Pipeline.Window.rect_emb_val_of_index_zero win0_4 t0_0 a rfl y)

/-- An array of one element has one index. -/
theorem idx1 (i : S1.Idx) : i = ix1 0 := by
  rw [eq_ix1 i]; exact congrArg _ (Subsingleton.elim (α := Fin 1) _ _)

/-- The result array after the run. -/
theorem out_eq (c : Dev nD) : (dats m 0 c).arrAt 4 cfg0.N = refOut m c := by
  refine (dats m 0 c).arrAt_eq_of_covers 4 _ (by decide +kernel) fun t hf y => ?_
  obtain rfl : t = t0_0 := fin_N0 t
  blk_simp
  rw [after0_4]
  unfold outsAt0
  frame_out
  simp only [iblk0_eq, iblk1_eq, iblk2_eq, iblk3_eq, idx1]
  have h0 : View.read (Elt Ideal) (View.whole cc0_stg0_0) ((hs0_0 t0_0).unread (xW m c)) = xW m c := (hs0_0 t0_0).read_unread _
  have h1 : View.read (Elt Ideal) (View.whole cc0_stg1_0) ((hs0_1 t0_0).unread (wW m c)) = wW m c := (hs0_1 t0_0).read_unread _
  have h2 : View.read (Elt Ideal) (View.whole cc0_stg2_0) ((hs0_2 t0_0).unread (sxW m c)) = sxW m c := (hs0_2 t0_0).read_unread _
  have h3 : View.read (Elt Ideal) (View.whole cc0_stg3_0) ((hs0_3 t0_0).unread (swW m c)) = swW m c := (hs0_3 t0_0).read_unread _
  rw [h0, h1, h2, h3]
  refine Eq.trans ?_ (congrArg (refOut m c) (emb4_eq y)).symm
  have hy : y = ix2 (n0 := 4096) (n1 := 8192) (y 0) (y 1) := eq_ix2 y
  rw [hy]
  exact pay_apply _ _ _ _ _ _

end Cert.ReferenceIdeal.K1

end
-- ==== Proof.Equation.lean ====
/- The equation between the two results over the extended reals: a device's block of the reference's result is what
   the device computes. -/
module

public import proofs.«01_k».proof.Proof.KIValue
public import proofs.«01_k».proof.Proof.RValue
public import Idealize.ShloMosaic.Lib.Layout

@[expose] public section

noncomputable section

namespace Cert.K1

open Idealize.ShloMosaic
open Idealize.ShloMosaic.TcCoe
open Idealize.SL.Sem

/-- A sum over sixteen devices' 256 positions each is the sum over all 4096 positions. -/
theorem sum_split (f : Fin 4096 → EReal) :
    ∑ d : Fin 16, ∑ t : Fin 256, f ⟨256 * d.val + t.val, by omega⟩ = ∑ K : Fin 4096, f K := by
  rw [← Fintype.sum_prod_type' (fun (d : Fin 16) (t : Fin 256) => f ⟨256 * d.val + t.val, by omega⟩)]
  refine Fintype.sum_equiv (finProdFinEquiv (m := 16) (n := 256)) _ _ fun p => ?_
  exact congrArg f (Fin.ext (Nat.add_comm _ _))

/-- The exponential of an extended real is not negative. -/
theorem exp_nonneg (x : EReal) : 0 ≤ Ideal.exp x := by
  induction x with
  | bot => exact le_refl _
  | top => exact le_top
  | coe r => exact EReal.coe_nonneg.mpr (Real.exp_pos r).le

/-- The kernel's form of the activation, `y` times the logistic of `y`, is the reference's quotient. -/
theorem silu_eq (y : EReal) : y * Ideal.logistic y = ReferenceIdeal.K1.silu y := by
  have h : (1 : EReal) + Ideal.exp (-y) ≠ 0 :=
    (lt_of_lt_of_le zero_lt_one (le_add_of_nonneg_right (exp_nonneg _))).ne'
  unfold ReferenceIdeal.K1.silu Ideal.logistic
  rw [zero_sub, Ideal.div, Ideal.div, if_neg h, if_neg h, one_mul]

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ)

/-- Device `c`'s result is block `c` of the rows of the reference's. -/
theorem out_block
    (hx : ∀ c : Dev KernelIdeal.nD, KernelIdeal.K1.xA m c = Layout.block ⟨2, ![4096, 256]⟩ ⟨2, ![4096, 4096]⟩ 1 16 c (ReferenceIdeal.K1.xW m' 0))
    (hw : ∀ c : Dev KernelIdeal.nD, KernelIdeal.K1.wA m c = Layout.block ⟨2, ![256, 8192]⟩ ⟨2, ![4096, 8192]⟩ 0 16 c (ReferenceIdeal.K1.wW m' 0))
    (hsx : ∀ c : Dev KernelIdeal.nD, KernelIdeal.K1.sxA m c = ReferenceIdeal.K1.sxW m' 0)
    (hsw : ∀ c : Dev KernelIdeal.nD, KernelIdeal.K1.swA m c = ReferenceIdeal.K1.swW m' 0)
    (c : Dev KernelIdeal.nD) :
    KernelIdeal.K1.outAt m ρ c = Layout.block ⟨2, ![256, 8192]⟩ ⟨2, ![4096, 8192]⟩ 0 16 c (ReferenceIdeal.K1.refOut m' 0) := by
  funext i
  rw [eq_ix2 i]
  generalize i 0 = r
  generalize i 1 = j
  change Fin 256 at r
  change Fin 8192 at j
  have hc : c.val < 16 := c.isLt
  have hX : ∀ (d : Dev KernelIdeal.nD) (R : Fin 4096) (t : Fin 256),
      KernelIdeal.K1.xA m d (ix2 R t) = ReferenceIdeal.K1.xW m' 0 (ix2 R ⟨256 * d.val + t.val, by have : d.val < 16 := d.isLt; omega⟩) := fun d R t => by
    rw [hx d]
    show ReferenceIdeal.K1.xW m' 0 _ = _
    refine congrArg _ (funext fun a => Fin.ext ?_)
    fin_cases a
    · rfl
    · show d.val * 256 + t.val = 256 * d.val + t.val
      omega
  have hW : ∀ (d : Dev KernelIdeal.nD) (t : Fin 256),
      KernelIdeal.K1.wA m d (ix2 t j) = ReferenceIdeal.K1.wW m' 0 (ix2 ⟨256 * d.val + t.val, by have : d.val < 16 := d.isLt; omega⟩ j) := fun d t => by
    rw [hw d]
    show ReferenceIdeal.K1.wW m' 0 _ = _
    refine congrArg _ (funext fun a => Fin.ext ?_)
    fin_cases a
    · show d.val * 256 + t.val = 256 * d.val + t.val
      omega
    · rfl
  have hO : Layout.block ⟨2, ![256, 8192]⟩ ⟨2, ![4096, 8192]⟩ 0 16 c (ReferenceIdeal.K1.refOut m' 0) (by decide) (ix2 r j)
      = ReferenceIdeal.K1.refOut m' 0 (ix2 ⟨256 * c.val + r.val, by omega⟩ j) := by
    rw [Layout.block_apply]
    refine congrArg _ (funext fun a => Fin.ext ?_)
    fin_cases a
    · show c.val * 256 + r.val = 256 * c.val + r.val
      omega
    · rfl
  have hS : (∑ d : Dev KernelIdeal.nD, ∑ t : Fin 256, (KernelIdeal.K1.xA m d (ix2 ⟨256 * c.val + r.val, by omega⟩ t) : EReal) * KernelIdeal.K1.wA m d (ix2 t j))
      = ∑ K : Fin 4096, (ReferenceIdeal.K1.xW m' 0 (ix2 ⟨256 * c.val + r.val, by omega⟩ K) : EReal) * ReferenceIdeal.K1.wW m' 0 (ix2 K j) := by
    rw [← sum_split]
    exact Finset.sum_congr rfl fun d _ => Finset.sum_congr rfl fun t _ => by rw [hX, hW]
  refine Eq.trans ?_ hO.symm
  rw [KernelIdeal.K1.outAt_apply, silu_eq, hS, KernelIdeal.K1.scl_eq, hsx, hsw]
  rfl

end Cert.K1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KRun
public import proofs.«01_k».proof.Proof.Equation
public import Idealize.ShloMosaic.Adequacy
public import Idealize.ShloMosaic.Init

@[expose] public section

noncomputable section

namespace Cert.Proof

open Idealize.ShloMosaic Idealize.SL.Sem

/-- `Kernel`: every fair execution ends, the arguments unchanged and every counter zero. -/
theorem frame_Kernel [Cert.Kernel.Facts] : Cert.quiescent_Kernel := fun m g _ =>
  θ_run_mono (Cert.Kernel.K1.run_main m g) (fun r h => ⟨fun c =>
    ⟨(h.1 c 0).trans (Cert.Kernel.K1.finalA_in m g c 0 (by decide)), (h.1 c 1).trans (Cert.Kernel.K1.finalA_in m g c 1 (by decide)),
      (h.1 c 2).trans (Cert.Kernel.K1.finalA_in m g c 2 (by decide)), (h.1 c 3).trans (Cert.Kernel.K1.finalA_in m g c 3 (by decide))⟩, h.2⟩)

/-- `KernelIdeal`: every fair execution ends, the arguments unchanged and every counter zero. -/
theorem frame_KernelIdeal [Cert.KernelIdeal.Facts] : Cert.quiescent_KernelIdeal := fun m g _ =>
  θ_run_mono (Cert.KernelIdeal.K1.run_main m g) (fun r h => ⟨fun c =>
    ⟨(h.1 c 0).trans (Cert.KernelIdeal.K1.finalA_in m g c 0 (by decide)), (h.1 c 1).trans (Cert.KernelIdeal.K1.finalA_in m g c 1 (by decide)),
      (h.1 c 2).trans (Cert.KernelIdeal.K1.finalA_in m g c 2 (by decide)), (h.1 c 3).trans (Cert.KernelIdeal.K1.finalA_in m g c 3 (by decide))⟩, h.2⟩)

/-- Each device's result is its block of rows of the reference's result. -/
theorem values [Cert.KernelIdeal.Facts] [Cert.ReferenceIdeal.Facts] : Cert.algebraic_KernelIdeal_ReferenceIdeal := fun m g m' g' _ h =>
  ⟨Cert.ReferenceIdeal.K1.refOut m' 0,
    θ_run_mono (Cert.KernelIdeal.K1.run_main m g) (fun r hr c =>
      ⟨(hr.1 c 4).trans ((Cert.KernelIdeal.K1.finalA_out m g c).trans
          (Cert.K1.out_block m g m' (fun d => (h d).1) (fun d => (h d).2.1) (fun d => (h d).2.2.1) (fun d => (h d).2.2.2) c)),
        (hr.1 c 0).trans (Cert.KernelIdeal.K1.finalA_in m g c 0 (by decide)), (hr.1 c 1).trans (Cert.KernelIdeal.K1.finalA_in m g c 1 (by decide)),
        (hr.1 c 2).trans (Cert.KernelIdeal.K1.finalA_in m g c 2 (by decide)), (hr.1 c 3).trans (Cert.KernelIdeal.K1.finalA_in m g c 3 (by decide))⟩),
    θ_run_mono (Cert.ReferenceIdeal.Value.run_blocks m' g')
      (fun r hr => ⟨(hr 0).1.trans (Cert.ReferenceIdeal.K1.out_eq m' 0), (hr 0).2⟩)⟩

/-- All claims: the three frames, that the ideal program is the kernel, and the equality of the values. -/
theorem claim : Cert.Claim := ⟨Cert.Kernel.Gen.facts, Cert.KernelIdeal.Gen.facts, Cert.ReferenceIdeal.Gen.facts,
  frame_Kernel, frame_KernelIdeal, fun m ρ _ => Cert.ReferenceIdeal.Gen.frame m ρ, trivial, values⟩

end Cert.Proof

end
